-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x394CCCCD#32 ((1 / 5120 : ℝ) : EReal)
  ∧ IdealRules.bf16_pair.PackStatement Cert.KernelIdeal.S1024x128
  ∧ IdealRules.bf16_pair.Statement Cert.KernelIdeal.S1024x2x128 Cert.KernelIdeal.S1024x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x5120 : Shape := ⟨3, ![6, 4096, 5120]⟩
abbrev S5120 : Shape := ⟨1, ![5120]⟩
abbrev S5120x10240 : Shape := ⟨2, ![5120, 10240]⟩
abbrev S10240 : Shape := ⟨1, ![10240]⟩
abbrev S128 : Shape := ⟨1, ![128]⟩
abbrev S24576x5120 : Shape := ⟨2, ![24576, 5120]⟩
abbrev S1x128 : Shape := ⟨2, ![1, 128]⟩
abbrev S2x128 : Shape := ⟨2, ![2, 128]⟩
abbrev S1x5120 : Shape := ⟨2, ![1, 5120]⟩
abbrev S1x10240 : Shape := ⟨2, ![1, 10240]⟩
abbrev S24576x64x128 : Shape := ⟨3, ![24576, 64, 128]⟩
abbrev S24576x8x128 : Shape := ⟨3, ![24576, 8, 128]⟩
abbrev S6x4096 : Shape := ⟨2, ![6, 4096]⟩
abbrev S128x5120 : Shape := ⟨2, ![128, 5120]⟩
abbrev S5120x1024 : Shape := ⟨2, ![5120, 1024]⟩
abbrev S1x1024 : Shape := ⟨2, ![1, 1024]⟩
abbrev S1024x8x128 : Shape := ⟨3, ![1024, 8, 128]⟩
abbrev S2x1024x5120 : Shape := ⟨3, ![2, 1024, 5120]⟩
abbrev S2x1024x128 : Shape := ⟨3, ![2, 1024, 128]⟩
abbrev S32x5120 : Shape := ⟨2, ![32, 5120]⟩
abbrev S32 : Shape := ⟨1, ![32]⟩
abbrev S32x1 : Shape := ⟨2, ![32, 1]⟩
abbrev S32x128 : Shape := ⟨2, ![32, 128]⟩
abbrev S1x1024x5120 : Shape := ⟨3, ![1, 1024, 5120]⟩
abbrev S1024x5120 : Shape := ⟨2, ![1024, 5120]⟩
abbrev S1x32x5120 : Shape := ⟨3, ![1, 32, 5120]⟩
abbrev S1x1024x128 : Shape := ⟨3, ![1, 1024, 128]⟩
abbrev S1024x128 : Shape := ⟨2, ![1024, 128]⟩
abbrev S128x128 : Shape := ⟨2, ![128, 128]⟩
abbrev S6x128 : Shape := ⟨2, ![6, 128]⟩
abbrev S1024x1024 : Shape := ⟨2, ![1024, 1024]⟩
abbrev S1024 : Shape := ⟨1, ![1024]⟩
abbrev S1024x1 : Shape := ⟨2, ![1024, 1]⟩
abbrev S1024x4x128 : Shape := ⟨3, ![1024, 4, 128]⟩
abbrev S1024x1x128 : Shape := ⟨3, ![1024, 1, 128]⟩
abbrev S1024x2x128 : Shape := ⟨3, ![1024, 2, 128]⟩

abbrev nBuf : Space → Nat
  | .hbm => 17
  | .vmem => 19
  | .smem => 0
  | _ => 0

abbrev bufTy : (tb : Table) → Fin (tcTables nBuf tb) → BufTy
  | .hbm, ⟨0, _⟩ => ⟨S6x4096x5120, .bf16⟩
  | .hbm, ⟨1, _⟩ => ⟨S5120, .f32⟩
  | .hbm, ⟨2, _⟩ => ⟨S5120x10240, .fp8e4m3⟩
  | .hbm, ⟨3, _⟩ => ⟨S10240, .f32⟩
  | .hbm, ⟨4, _⟩ => ⟨S128, .f32⟩
  | .hbm, ⟨5, _⟩ => ⟨S128, .f32⟩
  | .hbm, ⟨6, _⟩ => ⟨S24576x5120, .bf16⟩
  | .hbm, ⟨7, _⟩ => ⟨S1x128, .f32⟩
  | .hbm, ⟨8, _⟩ => ⟨S1x128, .f32⟩
  | .hbm, ⟨9, _⟩ => ⟨S2x128, .f32⟩
  | .hbm, ⟨10, _⟩ => ⟨S1x5120, .f32⟩
  | .hbm, ⟨11, _⟩ => ⟨S1x10240, .f32⟩
  | .hbm, ⟨12, _⟩ => ⟨S24576x64x128, .bf16⟩
  | .hbm, ⟨13, _⟩ => ⟨S24576x8x128, .bf16⟩
  | .hbm, ⟨14, _⟩ => ⟨S24576x8x128, .bf16⟩
  | .hbm, ⟨15, _⟩ => ⟨S24576x5120, .fp8e4m3⟩
  | .hbm, ⟨16, _⟩ => ⟨S6x4096, .f32⟩
  | .local _ .vmem, ⟨0, _⟩ => ⟨S128x5120, .bf16⟩
  | .local _ .vmem, ⟨1, _⟩ => ⟨S128x5120, .bf16⟩
  | .local _ .vmem, ⟨2, _⟩ => ⟨S1x5120, .f32⟩
  | .local _ .vmem, ⟨3, _⟩ => ⟨S5120x1024, .fp8e4m3⟩
  | .local _ .vmem, ⟨4, _⟩ => ⟨S5120x1024, .fp8e4m3⟩
  | .local _ .vmem, ⟨5, _⟩ => ⟨S1x1024, .f32⟩
  | .local _ .vmem, ⟨6, _⟩ => ⟨S1x1024, .f32⟩
  | .local _ .vmem, ⟨7, _⟩ => ⟨S2x128, .f32⟩
  | .local _ .vmem, ⟨8, _⟩ => ⟨S1024x8x128, .bf16⟩
  | .local _ .vmem, ⟨9, _⟩ => ⟨S1024x8x128, .bf16⟩
  | .local _ .vmem, ⟨10, _⟩ => ⟨S1024x8x128, .bf16⟩
  | .local _ .vmem, ⟨11, _⟩ => ⟨S1024x8x128, .bf16⟩
  | .local _ .vmem, ⟨12, _⟩ => ⟨S1024x8x128, .bf16⟩
  | .local _ .vmem, ⟨13, _⟩ => ⟨S1024x8x128, .bf16⟩
  | .local _ .vmem, ⟨14, _⟩ => ⟨S128x5120, .fp8e4m3⟩
  | .local _ .vmem, ⟨15, _⟩ => ⟨S128x5120, .fp8e4m3⟩
  | .local _ .vmem, ⟨16, _⟩ => ⟨S6x4096, .f32⟩
  | .local _ .vmem, ⟨17, _⟩ => ⟨S2x1024x5120, .fp8e4m3⟩
  | .local _ .vmem, ⟨18, _⟩ => ⟨S2x1024x128, .f32⟩
  | _, _ => ⟨S6x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [BitOps F]

abbrev grid0 : Pipeline.Grid := ⟨2, ![25, 10], ![false, false]⟩

def k0_cond1 (i : grid0.Coords) : BitVec 1 :=
  let arg0 : BitVec 32 := BitVec.ofNat 32 (i 0).val
  let c24_i32 : BitVec 32 := 24#32
  let v2 : BitVec 1 := Scalar.cmpi .slt arg0 c24_i32
  let arg1 : BitVec 32 := BitVec.ofNat 32 (i 1).val
  let c8_i32 : BitVec 32 := 8#32
  let v3 : BitVec 1 := Scalar.cmpi .slt arg1 c8_i32
  let v4 : BitVec 1 := Scalar.andi v2 v3
  let v5 : BitVec 32 := Scalar.extui v4
  let c0_i32 : BitVec 32 := 0#32
  let v6 : BitVec 1 := Scalar.cmpi .ne v5 c0_i32
  v6

@[reducible] def k0_t1_loop : Scf.Loop 32 :=
  let c0_i32_8 : BitVec 32 := 0#32
  let c4_i32 : BitVec 32 := 4#32
  let v22 : BitVec 32 := Scalar.addi c0_i32_8 c4_i32
  let c1_i32_9 : BitVec 32 := 1#32
  ⟨c0_i32_8, v22, c1_i32_9⟩
def k0_mult1 (k0_t1 : Fin k0_t1_loop.trips) : BitVec 32 :=
  let c0_i32_8 : BitVec 32 := 0#32
  let c1_i32_9 : BitVec 32 := 1#32
  let arg14 : BitVec 32 := Scf.iv c0_i32_8 c1_i32_9 k0_t1
  let c32_i32 : BitVec 32 := 32#32
  let v77 : BitVec 32 := Scalar.muli arg14 c32_i32
  v77
def k0_mult2 (i : grid0.Coords) (k0_t1 : Fin k0_t1_loop.trips) : BitVec 32 :=
  let arg1 : BitVec 32 := BitVec.ofNat 32 (i 1).val
  let c128_i32_28 : BitVec 32 := 128#32
  let v79 : BitVec 32 := Scalar.muli arg1 c128_i32_28
  let c0_i32_8 : BitVec 32 := 0#32
  let c1_i32_9 : BitVec 32 := 1#32
  let arg14 : BitVec 32 := Scf.iv c0_i32_8 c1_i32_9 k0_t1
  let c32_i32 : BitVec 32 := 32#32
  let v77 : BitVec 32 := Scalar.muli arg14 c32_i32
  let v78 : BitVec 32 := v77
  let v80 : BitVec 32 := Scalar.addi v79 v78
  v80
def k0_off1 (k0_t1 : Fin k0_t1_loop.trips) : Fin 2 → Nat :=
  let c0_i32_8 : BitVec 32 := 0#32
  let c1_i32_9 : BitVec 32 := 1#32
  let arg14 : BitVec 32 := Scf.iv c0_i32_8 c1_i32_9 k0_t1
  let c32_i32 : BitVec 32 := 32#32
  let v77 : BitVec 32 := Scalar.muli arg14 c32_i32
  let v78 : BitVec 32 := v77
  let v82 : Index := Scalar.indexCast v78
  let c0_29 : Index := 0#32
  ![v82.toNat, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let c0_i32_70 : BitVec 32 := 0#32
  let c0_i32_71 : BitVec 32 := 0#32
  ![v0.toNat, 0, 0]
def k0_off3 (i : grid0.Coords) (k0_t1 : Fin k0_t1_loop.trips) : Fin 2 → Nat :=
  let arg1 : BitVec 32 := BitVec.ofNat 32 (i 1).val
  let c128_i32_28 : BitVec 32 := 128#32
  let v79 : BitVec 32 := Scalar.muli arg1 c128_i32_28
  let c0_i32_8 : BitVec 32 := 0#32
  let c1_i32_9 : BitVec 32 := 1#32
  let arg14 : BitVec 32 := Scf.iv c0_i32_8 c1_i32_9 k0_t1
  let c32_i32 : BitVec 32 := 32#32
  let v77 : BitVec 32 := Scalar.muli arg14 c32_i32
  let v78 : BitVec 32 := v77
  let v80 : BitVec 32 := Scalar.addi v79 v78
  let v81 : BitVec 32 := v80
  let v219 : Index := Scalar.indexCast v81
  let c0_72 : Index := 0#32
  ![v219.toNat, 0]
def k0_off4 (i : grid0.Coords) (k0_t1 : Fin k0_t1_loop.trips) : Fin 3 → Nat :=
  let arg0 : BitVec 32 := BitVec.ofNat 32 (i 0).val
  let c2_i32 : BitVec 32 := 2#32
  let v0 : BitVec 32 := Scalar.remsi arg0 c2_i32
  let arg1 : BitVec 32 := BitVec.ofNat 32 (i 1).val
  let c128_i32_28 : BitVec 32 := 128#32
  let v79 : BitVec 32 := Scalar.muli arg1 c128_i32_28
  let c0_i32_8 : BitVec 32 := 0#32
  let c1_i32_9 : BitVec 32 := 1#32
  let arg14 : BitVec 32 := Scf.iv c0_i32_8 c1_i32_9 k0_t1
  let c32_i32 : BitVec 32 := 32#32
  let v77 : BitVec 32 := Scalar.muli arg14 c32_i32
  let v78 : BitVec 32 := v77
  let v80 : BitVec 32 := Scalar.addi v79 v78
  let v81 : BitVec 32 := v80
  let v219 : Index := Scalar.indexCast v81
  let c0_i32_71 : BitVec 32 := 0#32
  ![v0.toNat, v219.toNat, 0]
def k0_off5 (i : grid0.Coords) : Fin 3 → Nat :=
  let arg0 : BitVec 32 := BitVec.ofNat 32 (i 0).val
  let c2_i32 : BitVec 32 := 2#32
  let v0 : BitVec 32 := Scalar.remsi arg0 c2_i32
  let c0_i32_74 : BitVec 32 := 0#32
  let c0_i32_75 : BitVec 32 := 0#32
  ![v0.toNat, 0, 0]
def k0_off6 (i : grid0.Coords) (k0_t1 : Fin k0_t1_loop.trips) : Fin 2 → Nat :=
  let arg1 : BitVec 32 := BitVec.ofNat 32 (i 1).val
  let c128_i32_28 : BitVec 32 := 128#32
  let v79 : BitVec 32 := Scalar.muli arg1 c128_i32_28
  let c0_i32_8 : BitVec 32 := 0#32
  let c1_i32_9 : BitVec 32 := 1#32
  let arg14 : BitVec 32 := Scf.iv c0_i32_8 c1_i32_9 k0_t1
  let c32_i32 : BitVec 32 := 32#32
  let v77 : BitVec 32 := Scalar.muli arg14 c32_i32
  let v78 : BitVec 32 := v77
  let v80 : BitVec 32 := Scalar.addi v79 v78
  let v81 : BitVec 32 := v80
  let v227 : Index := Scalar.indexCast v81
  let c0_76 : Index := 0#32
  ![v227.toNat, 0]
def k0_mult3 (i : grid0.Coords) : BitVec 32 :=
  let arg1 : BitVec 32 := BitVec.ofNat 32 (i 1).val
  let c128_i32 : BitVec 32 := 128#32
  let v23 : BitVec 32 := Scalar.muli arg1 c128_i32
  v23
def k0_off7 (i : grid0.Coords) : Fin 3 → Nat :=
  let arg0 : BitVec 32 := BitVec.ofNat 32 (i 0).val
  let c2_i32 : BitVec 32 := 2#32
  let v0 : BitVec 32 := Scalar.remsi arg0 c2_i32
  let c0_i32_11 : BitVec 32 := 0#32
  let c0_i32_12 : BitVec 32 := 0#32
  ![v0.toNat, 0, 0]
def k0_off8 (i : grid0.Coords) : Fin 2 → Nat :=
  let arg1 : BitVec 32 := BitVec.ofNat 32 (i 1).val
  let c128_i32 : BitVec 32 := 128#32
  let v23 : BitVec 32 := Scalar.muli arg1 c128_i32
  let v24 : BitVec 32 := v23
  let v27 : Index := Scalar.indexCast v24
  let c0 : Index := 0#32
  ![v27.toNat, 0]
def k0_mult4 (i : grid0.Coords) : BitVec 32 :=
  let arg0 : BitVec 32 := BitVec.ofNat 32 (i 0).val
  let c1024_i32 : BitVec 32 := 1024#32
  let v36 : BitVec 32 := Scalar.muli arg0 c1024_i32
  let arg1 : BitVec 32 := BitVec.ofNat 32 (i 1).val
  let c128_i32_14 : BitVec 32 := 128#32
  let v37 : BitVec 32 := Scalar.muli arg1 c128_i32_14
  let v38 : BitVec 32 := Scalar.addi v36 v37
  let c4096_i32 : BitVec 32 := 4096#32
  let c0_i32_15 : BitVec 32 := 0#32
  let v40 : BitVec 1 := Scalar.cmpi .eq c4096_i32 c0_i32_15
  let c1_i32_16 : BitVec 32 := 1#32
  let v41 : BitVec 32 := Scalar.select v40 c1_i32_16 c4096_i32
  let v42 : BitVec 32 := Scalar.remsi v38 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  v49
def k0_off9 (i : grid0.Coords) : Fin 2 → Nat :=
  let c0_27 : Index := 0#32
  let arg0 : BitVec 32 := BitVec.ofNat 32 (i 0).val
  let c1024_i32 : BitVec 32 := 1024#32
  let v36 : BitVec 32 := Scalar.muli arg0 c1024_i32
  let arg1 : BitVec 32 := BitVec.ofNat 32 (i 1).val
  let c128_i32_14 : BitVec 32 := 128#32
  let v37 : BitVec 32 := Scalar.muli arg1 c128_i32_14
  let v38 : BitVec 32 := Scalar.addi v36 v37
  let c4096_i32 : BitVec 32 := 4096#32
  let c0_i32_15 : BitVec 32 := 0#32
  let v40 : BitVec 1 := Scalar.cmpi .eq c4096_i32 c0_i32_15
  let c1_i32_16 : BitVec 32 := 1#32
  let v41 : BitVec 32 := Scalar.select v40 c1_i32_16 c4096_i32
  let v42 : BitVec 32 := Scalar.remsi v38 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let v50 : BitVec 32 := v49
  let v72 : Index := Scalar.indexCast v50
  ![0, v72.toNat]
def k0_cond2 (i : grid0.Coords) : BitVec 1 :=
  let arg0 : BitVec 32 := BitVec.ofNat 32 (i 0).val
  let c0_i32_0 : BitVec 32 := 0#32
  let v7 : BitVec 1 := Scalar.cmpi .sgt arg0 c0_i32_0
  let arg1 : BitVec 32 := BitVec.ofNat 32 (i 1).val
  let c8_i32_1 : BitVec 32 := 8#32
  let v8 : BitVec 1 := Scalar.cmpi .slt arg1 c8_i32_1
  let v9 : BitVec 1 := Scalar.andi v7 v8
  let v10 : BitVec 32 := Scalar.extui v9
  let c0_i32_2 : BitVec 32 := 0#32
  let v11 : BitVec 1 := Scalar.cmpi .ne v10 c0_i32_2
  v11

def k0_off10 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v24 : Index := Scalar.indexCast v1
  let c0_9 : Index := 0#32
  let c0_10 : Index := 0#32
  ![v24.toNat, 0, 0]
def k0_off11 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v29 : Index := Scalar.indexCast v1
  let c0_13 : Index := 0#32
  let c0_14 : Index := 0#32
  ![v29.toNat, 0, 0]
def k0_cond3 (i : grid0.Coords) : BitVec 1 :=
  let arg0 : BitVec 32 := BitVec.ofNat 32 (i 0).val
  let c0_i32_3 : BitVec 32 := 0#32
  let v12 : BitVec 1 := Scalar.cmpi .sgt arg0 c0_i32_3
  let arg1 : BitVec 32 := BitVec.ofNat 32 (i 1).val
  let c8_i32_4 : BitVec 32 := 8#32
  let v13 : BitVec 1 := Scalar.cmpi .eq arg1 c8_i32_4
  let v14 : BitVec 1 := Scalar.andi v12 v13
  let v15 : BitVec 32 := Scalar.extui v14
  let c0_i32_5 : BitVec 32 := 0#32
  let v16 : BitVec 1 := Scalar.cmpi .ne v15 c0_i32_5
  v16

def k0_off12 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v24 : Index := Scalar.indexCast v1
  let c0_8 : Index := 0#32
  let c0_9 : Index := 0#32
  ![v24.toNat, 0, 0]
def k0_off13 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v29 : Index := Scalar.indexCast v1
  let c0_12 : Index := 0#32
  let c0_13 : Index := 0#32
  ![v29.toNat, 0, 0]
def k0_cond4 (i : grid0.Coords) : BitVec 1 :=
  let arg0 : BitVec 32 := BitVec.ofNat 32 (i 0).val
  let c0_i32_6 : BitVec 32 := 0#32
  let v17 : BitVec 1 := Scalar.cmpi .sgt arg0 c0_i32_6
  let arg1 : BitVec 32 := BitVec.ofNat 32 (i 1).val
  let c9_i32 : BitVec 32 := 9#32
  let v18 : BitVec 1 := Scalar.cmpi .eq arg1 c9_i32
  let v19 : BitVec 1 := Scalar.andi v17 v18
  let v20 : BitVec 32 := Scalar.extui v19
  let c0_i32_7 : BitVec 32 := 0#32
  let v21 : BitVec 1 := Scalar.cmpi .ne v20 c0_i32_7
  v21

def k0_off14 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v22 : Index := Scalar.indexCast v1
  let c0 : Index := 0#32
  let c0_8 : Index := 0#32
  ![v22.toNat, 0, 0]
def k0_off15 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v27 : Index := Scalar.indexCast v1
  let c0_11 : Index := 0#32
  let c0_12 : Index := 0#32
  ![v27.toNat, 0, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c191_i32 : BitVec 32 := 191#32
  let v3 : BitVec 32 := Scalar.minsi v2 c191_i32
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c7_i32 : BitVec 32 := 7#32
  let v3 : BitVec 32 := Scalar.minsi arg1 c7_i32
  let c0_i32_1 : BitVec 32 := 0#32
  let v4 : BitVec 32 := Scalar.select v2 c0_i32_1 v3
  let c0_i32_2 : BitVec 32 := 0#32
  let c0_i32_3 : BitVec 32 := 0#32
  ![v1.toNat, v4.toNat, c0_i32_2.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c191_i32 : BitVec 32 := 191#32
  let v3 : BitVec 32 := Scalar.minsi v2 c191_i32
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S5120x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x8x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S6x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "inv_d" => some ((1 / 5120 : ℝ) : EReal)
  | _ => none
-- ==== ReferenceIdeal.lean ====
abbrev S6x4096x5120 : Shape := ⟨3, ![6, 4096, 5120]⟩
abbrev S5120 : Shape := ⟨1, ![5120]⟩
abbrev S5120x10240 : Shape := ⟨2, ![5120, 10240]⟩
abbrev S10240 : Shape := ⟨1, ![10240]⟩
abbrev S128 : Shape := ⟨1, ![128]⟩
abbrev S24576x5120 : Shape := ⟨2, ![24576, 5120]⟩
abbrev S1x5120 : Shape := ⟨2, ![1, 5120]⟩
abbrev S1x10240 : Shape := ⟨2, ![1, 10240]⟩
abbrev S1x1x128 : Shape := ⟨3, ![1, 1, 128]⟩
abbrev S24576x64x128 : Shape := ⟨3, ![24576, 64, 128]⟩
abbrev S24576x8x128 : Shape := ⟨3, ![24576, 8, 128]⟩
abbrev S6x4096 : Shape := ⟨2, ![6, 4096]⟩
abbrev S24576 : Shape := ⟨1, ![24576]⟩
abbrev S24576x1 : Shape := ⟨2, ![24576, 1]⟩
abbrev S24576x10240 : Shape := ⟨2, ![24576, 10240]⟩
abbrev S24576x8192 : Shape := ⟨2, ![24576, 8192]⟩
abbrev S24576x64 : Shape := ⟨2, ![24576, 64]⟩
abbrev S24576x64x1 : Shape := ⟨3, ![24576, 64, 1]⟩
abbrev S24576x1024 : Shape := ⟨2, ![24576, 1024]⟩
abbrev S24576x8 : Shape := ⟨2, ![24576, 8]⟩
abbrev S24576x8x1 : Shape := ⟨3, ![24576, 8, 1]⟩

abbrev nBuf : Space → Nat
  | .hbm => 16
  | .vmem => 11
  | .smem => 0
  | _ => 0

abbrev bufTy : (tb : Table) → Fin (tcTables nBuf tb) → BufTy
  | .hbm, ⟨0, _⟩ => ⟨S6x4096x5120, .bf16⟩
  | .hbm, ⟨1, _⟩ => ⟨S5120, .f32⟩
  | .hbm, ⟨2, _⟩ => ⟨S5120x10240, .fp8e4m3⟩
  | .hbm, ⟨3, _⟩ => ⟨S10240, .f32⟩
  | .hbm, ⟨4, _⟩ => ⟨S128, .f32⟩
  | .hbm, ⟨5, _⟩ => ⟨S128, .f32⟩
  | .hbm, ⟨6, _⟩ => ⟨S24576x5120, .bf16⟩
  | .hbm, ⟨7, _⟩ => ⟨S1x5120, .f32⟩
  | .hbm, ⟨8, _⟩ => ⟨S1x10240, .f32⟩
  | .hbm, ⟨9, _⟩ => ⟨S1x1x128, .f32⟩
  | .hbm, ⟨10, _⟩ => ⟨S1x1x128, .f32⟩
  | .hbm, ⟨11, _⟩ => ⟨S24576x64x128, .bf16⟩
  | .hbm, ⟨12, _⟩ => ⟨S24576x8x128, .bf16⟩
  | .hbm, ⟨13, _⟩ => ⟨S24576x8x128, .bf16⟩
  | .hbm, ⟨14, _⟩ => ⟨S24576x5120, .fp8e4m3⟩
  | .hbm, ⟨15, _⟩ => ⟨S6x4096, .f32⟩
  | .local _ .vmem, ⟨0, _⟩ => ⟨S24576x5120, .bf16⟩
  | .local _ .vmem, ⟨1, _⟩ => ⟨S1x5120, .f32⟩
  | .local _ .vmem, ⟨2, _⟩ => ⟨S5120x10240, .fp8e4m3⟩
  | .local _ .vmem, ⟨3, _⟩ => ⟨S1x10240, .f32⟩
  | .local _ .vmem, ⟨4, _⟩ => ⟨S1x1x128, .f32⟩
  | .local _ .vmem, ⟨5, _⟩ => ⟨S1x1x128, .f32⟩
  | .local _ .vmem, ⟨6, _⟩ => ⟨S24576x64x128, .bf16⟩
  | .local _ .vmem, ⟨7, _⟩ => ⟨S24576x8x128, .bf16⟩
  | .local _ .vmem, ⟨8, _⟩ => ⟨S24576x8x128, .bf16⟩
  | .local _ .vmem, ⟨9, _⟩ => ⟨S24576x5120, .fp8e4m3⟩
  | .local _ .vmem, ⟨10, _⟩ => ⟨S6x4096, .f32⟩
  | _, _ => ⟨S6x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S24576x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24576x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.FrameKernel.lean ====
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Pipeline.Frame
public import Idealize.ShloMosaic.Lib.VecWindow
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-! The launch's frame, the outputs unnamed: every buffer the body is handed it hands back, the inputs as it found them. -/

/-- The band loop of a chunk: the chunk and the norm weights stay, the three buffers a trip writes are held at some contents. -/
@[sl_loop] abbrev loopInvW (c : Dev nD) (i : grid0.Coords) (arg2 : Memref sig .tc .vmem S128x5120 .bf16) (harg2 : arg2.IsWhole) (arg3 : Memref sig .tc .vmem S1x5120 .f32) (harg3 : arg3.IsWhole) (arg4 : Memref sig .tc .vmem S5120x1024 .fp8e4m3) (harg4 : arg4.IsWhole) (arg5 : Memref sig .tc .vmem S1x1024 .f32) (harg5 : arg5.IsWhole) (arg6 : Memref sig .tc .vmem S2x128 .f32) (harg6 : arg6.IsWhole) (arg7 : Memref sig .tc .vmem S1024x8x128 .bf16) (harg7 : arg7.IsWhole) (arg8 : Memref sig .tc .vmem S1024x8x128 .bf16) (harg8 : arg8.IsWhole) (arg9 : Memref sig .tc .vmem S1024x8x128 .bf16) (harg9 : arg9.IsWhole) (arg10 : Memref sig .tc .vmem S128x5120 .fp8e4m3) (harg10 : arg10.IsWhole) (arg11 : Memref sig .tc .vmem S6x4096 .f32) (harg11 : arg11.IsWhole) (arg12 : Memref sig .tc .vmem S2x1024x5120 .fp8e4m3) (harg12 : arg12.IsWhole) (arg13 : Memref sig .tc .vmem S2x1024x128 .f32) (harg13 : arg13.IsWhole) (arg0 arg1 : BitVec 32) (k0_h1 : k0_cond1 i = 1#1)
    (f2 : Buf (Elt F) (arg2.view.loc (c : Thread nD τ))) (f3 : Buf (Elt F) (arg3.view.loc (c : Thread nD τ))) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg0 arg1 k0_h1 where
  inv k _ := iprop((arg2.view.loc (c : Thread nD τ) ↦[arg2.view.set]{fullShare} f2) ∗ (arg3.view.loc (c : Thread nD τ) ↦[arg3.view.set]{fullShare} f3)
    ∗ (∃ f, arg10.view.loc (c : Thread nD τ) ↦[arg10.view.set]{fullShare} f)
    ∗ (∃ f, arg12.view.loc (c : Thread nD τ) ↦{fullShare} f)
    ∗ (∃ f, arg13.view.loc (c : Thread nD τ) ↦{fullShare} f))
  step k _ := by
    unfold Gen.k0_t1_body
    iintro ⟨H2, H3, ⟨%f10, H10⟩, ⟨%f12, H12⟩, ⟨%f13, H13⟩⟩
    sl_exec
    sl_step
    isplitl [H2]; · iexact H2
    isplitl [H3]; · iexact H3
    isplitl [H10]; · iexists _; iexact H10
    isplitl [H12]; · iexists _; iexact H12
    iexists _; iexact H13

/-- The body at any coordinates, every buffer whole: it returns, every buffer handed back, the five inputs at what they held. -/
theorem kernelRun (c : Dev nD) (i : grid0.Coords) (arg2 : Memref sig .tc .vmem S128x5120 .bf16) (harg2 : arg2.IsWhole) (arg3 : Memref sig .tc .vmem S1x5120 .f32) (harg3 : arg3.IsWhole) (arg4 : Memref sig .tc .vmem S5120x1024 .fp8e4m3) (harg4 : arg4.IsWhole) (arg5 : Memref sig .tc .vmem S1x1024 .f32) (harg5 : arg5.IsWhole) (arg6 : Memref sig .tc .vmem S2x128 .f32) (harg6 : arg6.IsWhole) (arg7 : Memref sig .tc .vmem S1024x8x128 .bf16) (harg7 : arg7.IsWhole) (arg8 : Memref sig .tc .vmem S1024x8x128 .bf16) (harg8 : arg8.IsWhole) (arg9 : Memref sig .tc .vmem S1024x8x128 .bf16) (harg9 : arg9.IsWhole) (arg10 : Memref sig .tc .vmem S128x5120 .fp8e4m3) (harg10 : arg10.IsWhole) (arg11 : Memref sig .tc .vmem S6x4096 .f32) (harg11 : arg11.IsWhole) (arg12 : Memref sig .tc .vmem S2x1024x5120 .fp8e4m3) (harg12 : arg12.IsWhole) (arg13 : Memref sig .tc .vmem S2x1024x128 .f32) (harg13 : arg13.IsWhole) (X2 : S128x5120.Idx → Elt F .bf16) (X3 : S1x5120.Idx → Elt F .f32) (X4 : S5120x1024.Idx → Elt F .fp8e4m3) (X5 : S1x1024.Idx → Elt F .f32) (X6 : S2x128.Idx → Elt F .f32) (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦{fullShare} f) ∗ (∃ f, arg13.view.loc (c : Thread nD τ) ↦{fullShare} f)
        ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦{fullShare} f) ∗ (∃ f, arg13.view.loc (c : Thread nD τ) ↦{fullShare} f)) -∗ K ⟨⟩))
      ⊢ wp frame (wpE (defs₀ (F := F)) Variants.none c none) Set.univ (cc0_qkv_fp8 i arg2 harg2 arg3 harg3 arg4 harg4 arg5 harg5 arg6 harg6 arg7 harg7 arg8 harg8 arg9 harg9 arg10 harg10 arg11 harg11 arg12 harg12 arg13 harg13) K := by
  rw [cc0_qkv_fp8_eq_skeleton]; unfold cc0_qkv_fp8_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, ⟨%d11, %f11, -, H11⟩, ⟨%f12, H12⟩, ⟨%f13, H13⟩, Hk⟩
  by_cases h1 : k0_cond1 i = 1#1 <;> by_cases h2 : k0_cond2 i = 1#1 <;> by_cases h3 : k0_cond3 i = 1#1 <;> by_cases h4 : k0_cond4 i = 1#1
  all_goals
    sl_exec
    sl_step
    iapply Hk
    isplitl [H2]; · iexists _; isplitr; swap; (iexact H2); ipureintro; exact e2
    isplitl [H3]; · iexists _; isplitr; swap; (iexact H3); ipureintro; exact e3
    isplitl [H4]; · iexists _; isplitr; swap; (iexact H4); ipureintro; exact e4
    isplitl [H5]; · iexists _; isplitr; swap; (iexact H5); ipureintro; exact e5
    isplitl [H6]; · iexists _; isplitr; swap; (iexact H6); ipureintro; exact e6
    isplitl [H7]; · iexists _, _; isplitr; swap; (iexact H7); ipureintro; rfl
    isplitl [H8]; · iexists _, _; isplitr; swap; (iexact H8); ipureintro; rfl
    isplitl [H9]; · iexists _, _; isplitr; swap; (iexact H9); ipureintro; rfl
    isplitl [H10]; · iexists _, _; isplitr; swap; (iexact H10); ipureintro; rfl
    isplitl [H11]; · iexists _, _; isplitr; swap; (iexact H11); ipureintro; rfl
    isplitl [H12]; · iexists _; iexact H12
    iexists _; iexact H13

/-! ## The proof data: outputs unnamed -/

variable (m : (ℓ : Loc nD τ sig) → Buf (Elt F) ℓ) (ρ : Dev nD → PrngReg)

/-- Inputs stay as found; of an output's staging buffer nothing is said. -/
def rdat (c : Dev nD) : Pipeline.RDat τ (Elt F) Unit ℕ (UR sig nD τ) ℕ cfg0 c where
  A w := V m c (Pipeline.arrRef spec0 w)
  after w _ Y X := (cfg0.win w).isOut = false → X = Y
  Φ _ := Pipeline.ΦA spec0 c
  q _ := fullShare
  owed _ := 0

theorem A_eq (c : Dev nD) (w : Fin cfg0.W) : (rdat m c).A w = V m c (Pipeline.arrRef spec0 w) := by dsimp only [rdat]

theorem ΦA_eq (c : Dev nD) : (Pipeline.ΦA spec0 c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) ∗ (∃ r, prngReg c r)) := by
  unfold Pipeline.ΦA; rw [scopedRest0_eq]

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row,
    show (rdat (F := F) m c).Φ t.succ = Pipeline.ΦA spec0 c from rfl, show (rdat (F := F) m c).Φ t.castSucc = Pipeline.ΦA spec0 c from rfl,
    show (rdat (F := F) m c).owesAt () t.succ = (rdat (F := F) m c).owesAt () t.castSucc from rfl, ΦA_eq]
  unfold bodyAt0
  iintro ⟨⟨⟨⟨%g12, HA⟩, ⟨%g13, HB⟩⟩, Hg⟩, HO, H0, H1, H2, H3, H4, H5, H6, H7, H8, H9⟩
  iapply (kernelRun c (grid0.coords t) _ _ _ _ _ _ _ _ _ _ _ _ _ _ _ _ _ _ _ _ (Memref.whole cc0_scratch0) _ (Memref.whole cc0_scratch1) _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [HA]; · iexists _; iexact HA
  isplitl [HB]; · iexists _; iexact HB
  iintro ⟨H0, H1, H2, H3, H4, ⟨%d5, H5⟩, ⟨%d6, H6⟩, ⟨%d7, H7⟩, ⟨%d8, H8⟩, ⟨%d9, H9⟩, HA, HB⟩
  isplitl [HA HB Hg]
  · isplitl [HA HB]
    · isplitl [HA]
      · iexact HA
      · iexact HB
    · iexact Hg
  isplitl [HO]; · iexact HO
  isplitl [H0]; · iexists _; isplitr; swap; (iexact H0); ipureintro; exact fun _ => rfl
  isplitl [H1]; · iexists _; isplitr; swap; (iexact H1); ipureintro; exact fun _ => rfl
  isplitl [H2]; · iexists _; isplitr; swap; (iexact H2); ipureintro; exact fun _ => rfl
  isplitl [H3]; · iexists _; isplitr; swap; (iexact H3); ipureintro; exact fun _ => rfl
  isplitl [H4]; · iexists _; isplitr; swap; (iexact H4); ipureintro; exact fun _ => rfl
  isplitl [H5]; · iexists _; isplitr; swap; (iexact H5); ipureintro; exact fun h => nomatch h
  isplitl [H6]; · iexists _; isplitr; swap; (iexact H6); ipureintro; exact fun h => nomatch h
  isplitl [H7]; · iexists _; isplitr; swap; (iexact H7); ipureintro; exact fun h => nomatch h
  isplitl [H8]; · iexists _; isplitr; swap; (iexact H8); ipureintro; exact fun h => nomatch h
  iexists _; isplitr; swap; (iexact H9); ipureintro; exact fun h => nomatch h

/-! ## The launch -/

set_option backward.isDefEq.respectTransparency.types false in
/-- Every weakly fair execution from zero counters terminates; every buffer no window stages ends at its launch contents, the
    inputs' arrays too, and every counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m)
    (hΦ := fun _ _ => rfl)

/-- The arguments end at their launch contents and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Kernel.Hand
-- ==== Proof.Loop.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

/-! The band loop of a chunk with its values: what one trip writes, and what the three written buffers hold before trip `k`. -/

/-- Band `k` of the chunk that `arg2` holds. -/
abbrev bandOf (c : Dev nD) (i : grid0.Coords) (k0_h1 : k0_cond1 i = 1#1) (arg2 : Memref sig .tc .vmem S128x5120 .bf16)
    (f2 : Buf (Elt F) (arg2.view.loc (c : Thread nD τ))) (k : Fin k0_t1_loop.trips) : Vec F S32x5120 .bf16 :=
  arg2.view.readAt (Elt F) (Rect.unit (s := S128x5120) (k0_off1 k) S32x5120.size (k0_off1_inb i k k0_h1)).toLoadRect f2

/-- The norm weights that `arg3` holds. -/
abbrev nwOf (c : Dev nD) (arg3 : Memref sig .tc .vmem S1x5120 .f32)
    (f3 : Buf (Elt F) (arg3.view.loc (c : Thread nD τ))) : Vec F S1x5120 .f32 :=
  arg3.view.readAt (Elt F) (Rect.unit (s := S1x5120) ![0, 0] S1x5120.size (by decide)).toLoadRect f3

/-- The scales of a band, one row of equal entries per row of the band. -/
def scaleT (x : Vec F S32x5120 .bf16) (nw : Vec F S1x5120 .f32) : FVec F S32x128 .f32 :=
  k0_pay21 (k0_pay16 (k0_pay8 x nw) (k0_pay12 (k0_pay8 x nw) (k0_pay9 x nw) (k0_pay10 x nw) k0_pay11)
    (k0_pay13 (k0_pay8 x nw) (k0_pay9 x nw) (k0_pay10 x nw) k0_pay11) k0_pay14)

/-- The inverse scales of a band. -/
def invT (x : Vec F S32x5120 .bf16) (nw : Vec F S1x5120 .f32) : FVec F S32x128 .f32 :=
  k0_pay17 (k0_pay8 x nw) (k0_pay12 (k0_pay8 x nw) (k0_pay9 x nw) (k0_pay10 x nw) k0_pay11)
    (k0_pay13 (k0_pay8 x nw) (k0_pay9 x nw) (k0_pay10 x nw) k0_pay11) k0_pay14

/-- The codes of a band as the output block takes them. -/
def codeT (x : Vec F S32x5120 .bf16) (nw : Vec F S1x5120 .f32) : FVec F S32x5120 .fp8e4m3 :=
  k0_pay19 (invT x nw) (k0_pay18 (k0_pay6 x) (k0_pay7 x) nw)

/-- The codes of a band as the code buffer takes them. -/
def codeT3 (x : Vec F S32x5120 .bf16) (nw : Vec F S1x5120 .f32) : FVec F S1x32x5120 .fp8e4m3 :=
  k0_pay20 (invT x nw) (k0_pay18 (k0_pay6 x) (k0_pay7 x) nw)

/-- The pieces written into the output block before trip `k`, newest first. -/
def pcs10 (i : grid0.Coords) (k0_h1 : k0_cond1 i = 1#1) (x : Fin k0_t1_loop.trips → Vec F S32x5120 .bf16) (nw : Vec F S1x5120 .f32) :
    ℕ → List (View.Piece (Elt F) S128x5120 .fp8e4m3)
  | 0 => []
  | k + 1 => if h : k < k0_t1_loop.trips then
      ⟨Rect.unit (s := S128x5120) (k0_off1 ⟨k, h⟩) S32x5120.size (k0_off1_inb i ⟨k, h⟩ k0_h1), codeT (x ⟨k, h⟩) nw⟩ :: pcs10 i k0_h1 x nw k
    else pcs10 i k0_h1 x nw k

/-- The pieces written into the code buffer before trip `k`, newest first. -/
def pcs12 (i : grid0.Coords) (k0_h1 : k0_cond1 i = 1#1) (x : Fin k0_t1_loop.trips → Vec F S32x5120 .bf16) (nw : Vec F S1x5120 .f32) :
    ℕ → List (View.Piece (Elt F) S2x1024x5120 .fp8e4m3)
  | 0 => []
  | k + 1 => if h : k < k0_t1_loop.trips then
      ⟨Rect.unit (s := S2x1024x5120) (k0_off4 i ⟨k, h⟩) S1x32x5120.size (k0_off4_inb i ⟨k, h⟩ k0_h1), codeT3 (x ⟨k, h⟩) nw⟩ :: pcs12 i k0_h1 x nw k
    else pcs12 i k0_h1 x nw k

/-- The scale buffer's slot that a chunk writes. -/
abbrev wrSlot (i : grid0.Coords) (k0_h1 : k0_cond1 i = 1#1) (arg13 : Memref sig .tc .vmem S2x1024x128 .f32) : Memref sig .tc .vmem S1024x128 .f32 :=
  (arg13.slice (Rect.unit (s := S2x1024x128) (k0_off5 i) S1x1024x128.size (k0_off5_inb i k0_h1)) (fun _ => rfl)).squeeze S1024x128 squeezes_S1x1024x128_S1024x128

/-- The scale buffer before trip `k`. -/
def buf13 (c : Dev nD) (i : grid0.Coords) (k0_h1 : k0_cond1 i = 1#1) (arg13 : Memref sig .tc .vmem S2x1024x128 .f32)
    (x : Fin k0_t1_loop.trips → Vec F S32x5120 .bf16) (nw : Vec F S1x5120 .f32)
    (f13 : Buf (Elt F) (arg13.view.loc (c : Thread nD τ))) : ℕ → Buf (Elt F) (arg13.view.loc (c : Thread nD τ))
  | 0 => f13
  | k + 1 => if h : k < k0_t1_loop.trips then
      View.write (Elt F) ((wrSlot i k0_h1 arg13).access (Rect.unit (s := S1024x128) (k0_off6 i ⟨k, h⟩) S32x128.size (k0_off6_inb i ⟨k, h⟩ k0_h1)))
        (buf13 c i k0_h1 arg13 x nw f13 k) (scaleT (x ⟨k, h⟩) nw) Finset.univ
    else buf13 c i k0_h1 arg13 x nw f13 k

theorem pcs10_succ (i : grid0.Coords) (k0_h1 : k0_cond1 i = 1#1) (x : Fin k0_t1_loop.trips → Vec F S32x5120 .bf16) (nw : Vec F S1x5120 .f32) (k : Fin k0_t1_loop.trips) :
    pcs10 i k0_h1 x nw (k.val + 1) = ⟨Rect.unit (s := S128x5120) (k0_off1 k) S32x5120.size (k0_off1_inb i k k0_h1), codeT (x k) nw⟩ :: pcs10 i k0_h1 x nw k.val := by
  rw [pcs10.eq_2]; exact dif_pos k.isLt

theorem pcs12_succ (i : grid0.Coords) (k0_h1 : k0_cond1 i = 1#1) (x : Fin k0_t1_loop.trips → Vec F S32x5120 .bf16) (nw : Vec F S1x5120 .f32) (k : Fin k0_t1_loop.trips) :
    pcs12 i k0_h1 x nw (k.val + 1) = ⟨Rect.unit (s := S2x1024x5120) (k0_off4 i k) S1x32x5120.size (k0_off4_inb i k k0_h1), codeT3 (x k) nw⟩ :: pcs12 i k0_h1 x nw k.val := by
  rw [pcs12.eq_2]; exact dif_pos k.isLt

theorem buf13_succ (c : Dev nD) (i : grid0.Coords) (k0_h1 : k0_cond1 i = 1#1) (arg13 : Memref sig .tc .vmem S2x1024x128 .f32)
    (x : Fin k0_t1_loop.trips → Vec F S32x5120 .bf16) (nw : Vec F S1x5120 .f32)
    (f13 : Buf (Elt F) (arg13.view.loc (c : Thread nD τ))) (k : Fin k0_t1_loop.trips) :
    buf13 c i k0_h1 arg13 x nw f13 (k.val + 1) = View.write (Elt F) ((wrSlot i k0_h1 arg13).access (Rect.unit (s := S1024x128) (k0_off6 i k) S32x128.size (k0_off6_inb i k k0_h1)))
        (buf13 c i k0_h1 arg13 x nw f13 k.val) (scaleT (x k) nw) Finset.univ := by
  rw [buf13.eq_2]; exact dif_pos k.isLt

/-- The band loop of a chunk: the chunk and the norm weights stay, the three written buffers hold what the trips so far wrote. -/
@[sl_loop] abbrev loopInv (c : Dev nD) (i : grid0.Coords) (arg2 : Memref sig .tc .vmem S128x5120 .bf16) (harg2 : arg2.IsWhole) (arg3 : Memref sig .tc .vmem S1x5120 .f32) (harg3 : arg3.IsWhole) (arg4 : Memref sig .tc .vmem S5120x1024 .fp8e4m3) (harg4 : arg4.IsWhole) (arg5 : Memref sig .tc .vmem S1x1024 .f32) (harg5 : arg5.IsWhole) (arg6 : Memref sig .tc .vmem S2x128 .f32) (harg6 : arg6.IsWhole) (arg7 : Memref sig .tc .vmem S1024x8x128 .bf16) (harg7 : arg7.IsWhole) (arg8 : Memref sig .tc .vmem S1024x8x128 .bf16) (harg8 : arg8.IsWhole) (arg9 : Memref sig .tc .vmem S1024x8x128 .bf16) (harg9 : arg9.IsWhole) (arg10 : Memref sig .tc .vmem S128x5120 .fp8e4m3) (harg10 : arg10.IsWhole) (arg11 : Memref sig .tc .vmem S6x4096 .f32) (harg11 : arg11.IsWhole) (arg12 : Memref sig .tc .vmem S2x1024x5120 .fp8e4m3) (harg12 : arg12.IsWhole) (arg13 : Memref sig .tc .vmem S2x1024x128 .f32) (harg13 : arg13.IsWhole) (arg0 arg1 : BitVec 32) (k0_h1 : k0_cond1 i = 1#1)
    (f2 : Buf (Elt F) (arg2.view.loc (c : Thread nD τ))) (f3 : Buf (Elt F) (arg3.view.loc (c : Thread nD τ)))
    (g10 : Buf (Elt F) (arg10.view.loc (c : Thread nD τ))) (g12 : Buf (Elt F) (arg12.view.loc (c : Thread nD τ)))
    (g13 : Buf (Elt F) (arg13.view.loc (c : Thread nD τ))) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg0 arg1 k0_h1 where
  inv k _ := iprop((arg2.view.loc (c : Thread nD τ) ↦[arg2.view.set]{fullShare} f2) ∗ (arg3.view.loc (c : Thread nD τ) ↦[arg3.view.set]{fullShare} f3)
    ∗ (∃ f, (arg10.view.loc (c : Thread nD τ) ↦[arg10.view.set]{fullShare} f)
        ∗ ⌜f = arg10.view.writes (Elt F) g10 (pcs10 i k0_h1 (bandOf c i k0_h1 arg2 f2) (nwOf c arg3 f3) k)⌝)
    ∗ (∃ f, (arg12.view.loc (c : Thread nD τ) ↦{fullShare} f)
        ∗ ⌜f = arg12.view.writes (Elt F) g12 (pcs12 i k0_h1 (bandOf c i k0_h1 arg2 f2) (nwOf c arg3 f3) k)⌝)
    ∗ (∃ f, (arg13.view.loc (c : Thread nD τ) ↦{fullShare} f)
        ∗ ⌜f = buf13 c i k0_h1 arg13 (bandOf c i k0_h1 arg2 f2) (nwOf c arg3 f3) g13 k⌝))
  step k _ := by
    unfold Gen.k0_t1_body
    iintro ⟨H2, H3, ⟨%f10, H10, %e10⟩, ⟨%f12, H12, %e12⟩, ⟨%f13, H13, %e13⟩⟩
    sl_exec
    sl_step
    isplitl [H2]; · iexact H2
    isplitl [H3]; · iexact H3
    isplitl [H10]
    · iexists _; isplitl [H10]; · iexact H10
      ipureintro; subst e10; rw [pcs10_succ]; rfl
    isplitl [H12]
    · iexists _; isplitl [H12]; · iexact H12
      ipureintro; subst e12; rw [pcs12_succ]; rfl
    iexists _; isplitl [H13]; · iexact H13
    ipureintro; subst e13; rw [buf13_succ]; rfl

end Cert.KernelIdeal.Run
-- ==== Proof.Written.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.VecWindow
public import Idealize.ShloMosaic.Lib.Tactic
public import Idealize.ShloMosaic.Lib.WritesUnit
public import Idealize.ShloMosaic.Lib.ViewIndex
public import Idealize.ShloMosaic.Lib.ValueLayout
public import Idealize.ShloMosaic.Lib.Pointwise
public import proofs.«01_k».proof.Proof.Loop

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

/-! What the three buffers that the band loop writes hold after it, read index by index. -/

theorem trips4 : k0_t1_loop.trips = 4 := by decide

/-- The band of a row of the chunk. -/
abbrev bandIx (r : Fin 128) : Fin k0_t1_loop.trips := ⟨r.val / 32, by rw [trips4]; omega⟩

/-- The codes of a chunk of 128 rows, given by its bands. -/
def chunkCodes (x : Fin k0_t1_loop.trips → Vec F S32x5120 .bf16) (nw : Vec F S1x5120 .f32) (r : Fin 128) (j : Fin 5120) : Elt F .fp8e4m3 :=
  codeT (x (bandIx r)) nw (ix2 ⟨r.val % 32, by omega⟩ j)

/-- The scales of a chunk of 128 rows, on every lane. -/
def chunkScales (x : Fin k0_t1_loop.trips → Vec F S32x5120 .bf16) (nw : Vec F S1x5120 .f32) (r : Fin 128) (l : Fin 128) : Elt F .f32 :=
  scaleT (x (bandIx r)) nw (ix2 ⟨r.val % 32, by omega⟩ l)

theorem codeT3_apply (x : Vec F S32x5120 .bf16) (nw : Vec F S1x5120 .f32) (a : Fin 1) (r : Fin 32) (j : Fin 5120) :
    codeT3 x nw (ix3 a r j) = codeT x nw (ix2 r j) := by
  unfold codeT3 codeT k0_pay20 k0_pay19
  have ha : a = 0 := Subsingleton.elim _ _
  subst ha
  pointwise

theorem chunkCodes_band (x : Fin k0_t1_loop.trips → Vec F S32x5120 .bf16) (nw : Vec F S1x5120 .f32) (k : Fin k0_t1_loop.trips) (a : Fin 32) (r : Fin 128)
    (j : Fin 5120) (h : r.val = 32 * k.val + a.val) : chunkCodes x nw r j = codeT (x k) nw (ix2 a j) := by
  have h1 : bandIx r = k := Fin.ext (by show r.val / 32 = k.val; omega)
  have h2 : (⟨r.val % 32, by omega⟩ : Fin 32) = a := Fin.ext (by show r.val % 32 = a.val; omega)
  unfold chunkCodes; rw [h1, h2]

theorem chunkScales_band (x : Fin k0_t1_loop.trips → Vec F S32x5120 .bf16) (nw : Vec F S1x5120 .f32) (k : Fin k0_t1_loop.trips) (a : Fin 32) (r : Fin 128)
    (l : Fin 128) (h : r.val = 32 * k.val + a.val) : chunkScales x nw r l = scaleT (x k) nw (ix2 a l) := by
  have h1 : bandIx r = k := Fin.ext (by show r.val / 32 = k.val; omega)
  have h2 : (⟨r.val % 32, by omega⟩ : Fin 32) = a := Fin.ext (by show r.val % 32 = a.val; omega)
  unfold chunkScales; rw [h1, h2]

/-- The output block after `k` trips: the bands written hold the codes. -/
theorem read_pcs10_lt (v : View sig .tc .vmem S128x5120 .fp8e4m3) (g : v.ty.Contents (Elt F)) (i : grid0.Coords) (k0_h1 : k0_cond1 i = 1#1)
    (x : Fin k0_t1_loop.trips → Vec F S32x5120 .bf16) (nw : Vec F S1x5120 .f32) :
    ∀ k : ℕ, k ≤ 4 → ∀ (r : Fin 128) (j : Fin 5120), r.val < 32 * k →
      v.read (Elt F) (v.writes (Elt F) g (pcs10 i k0_h1 x nw k)) (ix2 r j) = chunkCodes x nw r j
  | 0, _, r, j, h => absurd h (by omega)
  | k + 1, hk, r, j, h => by
    have hk' : k < k0_t1_loop.trips := by rw [trips4]; omega
    have e := pcs10_succ i k0_h1 x nw ⟨k, hk'⟩
    simp only [] at e
    rw [e]
    by_cases hr : r.val < 32 * k
    · rw [View.read_writes_cons_unit_of_not_mem _ _ _ _ _ _ (k0_off1_eq ⟨k, hk'⟩) (0 : Fin 2) (Or.inl hr)]
      exact read_pcs10_lt v g i k0_h1 x nw k (by omega) r j hr
    · rw [View.read_writes_cons_unit_of_mem _ _ _ _ _ _ (ix2 ⟨r.val - 32 * k, by omega⟩ j) (k0_off1_eq ⟨k, hk'⟩)
        (Fin.forall_fin_two.mpr ⟨by show r.val = 32 * k + (r.val - 32 * k); omega, by show j.val = 0 + j.val; omega⟩)]
      exact (chunkCodes_band x nw ⟨k, hk'⟩ _ r j (by show r.val = 32 * k + (r.val - 32 * k); omega)).symm

/-- The output block after the loop. -/
theorem read_pcs10 (v : View sig .tc .vmem S128x5120 .fp8e4m3) (g : v.ty.Contents (Elt F)) (i : grid0.Coords) (k0_h1 : k0_cond1 i = 1#1)
    (x : Fin k0_t1_loop.trips → Vec F S32x5120 .bf16) (nw : Vec F S1x5120 .f32) :
    v.read (Elt F) (v.writes (Elt F) g (pcs10 i k0_h1 x nw 4)) = fun y => chunkCodes x nw (y 0) (y 1) := by
  funext y
  rw [eq_ix2 (n0 := 128) (n1 := 5120) y]
  exact read_pcs10_lt v g i k0_h1 x nw 4 le_rfl (y 0) (y 1) (y 0).isLt

/-- The code buffer after `k` trips. -/
theorem read_pcs12_hit (v : View sig .tc .vmem S2x1024x5120 .fp8e4m3) (g : v.ty.Contents (Elt F)) (i : grid0.Coords) (k0_h1 : k0_cond1 i = 1#1)
    (x : Fin k0_t1_loop.trips → Vec F S32x5120 .bf16) (nw : Vec F S1x5120 .f32) :
    ∀ k : ℕ, k ≤ 4 → ∀ (s : Fin 2) (r : Fin 1024) (j : Fin 5120) (r' : Fin 128), s.val = (i 0).val % 2 → r.val = 128 * (i 1).val + r'.val → r'.val < 32 * k →
      v.read (Elt F) (v.writes (Elt F) g (pcs12 i k0_h1 x nw k)) (ix3 s r j) = chunkCodes x nw r' j
  | 0, _, s, r, j, r', _, _, h => absurd h (by omega)
  | k + 1, hk, s, r, j, r', hs, hr, h => by
    have hk' : k < k0_t1_loop.trips := by rw [trips4]; omega
    have e := pcs12_succ i k0_h1 x nw ⟨k, hk'⟩
    simp only [] at e
    rw [e]
    by_cases hr' : r'.val < 32 * k
    · rw [View.read_writes_cons_unit_of_not_mem _ _ _ _ _ _ (k0_off4_eq i ⟨k, hk'⟩) (1 : Fin 3) (Or.inl (by show r.val < 128 * (i 1).val + 32 * k; omega))]
      exact read_pcs12_hit v g i k0_h1 x nw k (by omega) s r j r' hs hr hr'
    · rw [View.read_writes_cons_unit_of_mem _ _ _ _ _ _ (ix3 (0 : Fin 1) (⟨r'.val - 32 * k, by omega⟩ : Fin 32) j) (k0_off4_eq i ⟨k, hk'⟩)
        (Fin.forall_fin_succ.mpr ⟨by show s.val = (i 0).val % 2 + 0; omega, Fin.forall_fin_two.mpr
          ⟨by show r.val = 128 * (i 1).val + 32 * k + (r'.val - 32 * k); omega, by show j.val = 0 + j.val; omega⟩⟩)]
      refine (codeT3_apply _ _ _ _ _).trans ?_
      exact (chunkCodes_band x nw ⟨k, hk'⟩ _ r' j (by show r'.val = 32 * k + (r'.val - 32 * k); omega)).symm

theorem read_pcs12_miss (v : View sig .tc .vmem S2x1024x5120 .fp8e4m3) (g : v.ty.Contents (Elt F)) (i : grid0.Coords) (k0_h1 : k0_cond1 i = 1#1)
    (x : Fin k0_t1_loop.trips → Vec F S32x5120 .bf16) (nw : Vec F S1x5120 .f32) :
    ∀ k : ℕ, k ≤ 4 → ∀ (s : Fin 2) (r : Fin 1024) (j : Fin 5120), (s.val = (i 0).val % 2 → r.val < 128 * (i 1).val ∨ 128 * (i 1).val + 128 ≤ r.val) →
      v.read (Elt F) (v.writes (Elt F) g (pcs12 i k0_h1 x nw k)) (ix3 s r j) = v.read (Elt F) g (ix3 s r j)
  | 0, _, s, r, j, _ => rfl
  | k + 1, hk, s, r, j, h => by
    have hk' : k < k0_t1_loop.trips := by rw [trips4]; omega
    have e := pcs12_succ i k0_h1 x nw ⟨k, hk'⟩
    simp only [] at e
    rw [e]
    by_cases hs : s.val = (i 0).val % 2
    · rw [View.read_writes_cons_unit_of_not_mem _ _ _ _ _ _ (k0_off4_eq i ⟨k, hk'⟩) (1 : Fin 3)
        (by show r.val < 128 * (i 1).val + 32 * k ∨ 128 * (i 1).val + 32 * k + 32 ≤ r.val; have := h hs; omega)]
      exact read_pcs12_miss v g i k0_h1 x nw k (by omega) s r j h
    · rw [View.read_writes_cons_unit_of_not_mem _ _ _ _ _ _ (k0_off4_eq i ⟨k, hk'⟩) (0 : Fin 3)
        (by show s.val < (i 0).val % 2 ∨ (i 0).val % 2 + 1 ≤ s.val; omega)]
      exact read_pcs12_miss v g i k0_h1 x nw k (by omega) s r j h

/-- Where the slot's rows lie in the scale buffer. -/
theorem slot_emb (i : grid0.Coords) (k0_h1 : k0_cond1 i = 1#1) (m : Memref sig .tc .vmem S2x1024x128 .f32) (y : S1024x128.Idx) (s : Fin 2) (hs : s.val = (i 0).val % 2) :
    (wrSlot i k0_h1 m).view.emb y = m.view.emb (ix3 s (y 0) (y 1)) := by
  show m.view.emb ((Rect.unit (s := S2x1024x128) (k0_off5 i) S1x1024x128.size (k0_off5_inb i k0_h1)).emb (Shape.reshapeEquiv _ y)) = _
  refine congrArg m.view.emb ?_
  have e : Shape.reshapeEquiv (s := S1x1024x128) (s' := S1024x128) squeezes_S1x1024x128_S1024x128.numel_eq y = ix3 (0 : Fin 1) (y 0) (y 1) := by
    rw [eq_ix2 (n0 := 1024) (n1 := 128) y]
    exact ((ValueIdx.reshapeEquiv_ix2_1ab _ _ _).trans (ix3_eq_valueIdx _ _ _).symm)
  refine (congrArg _ e).trans ?_
  have o := k0_off5_eq i
  refine Shape.idx3_ext ?_ ?_ ?_
  · show k0_off5 i 0 + 1 * 0 = s.val; rw [o, hs]; rfl
  · show k0_off5 i 1 + 1 * (y 0).val = (y 0).val; rw [o]; show 0 + 1 * (y 0).val = _; omega
  · show k0_off5 i 2 + 1 * (y 1).val = (y 1).val; rw [o]; show 0 + 1 * (y 1).val = _; omega

/-- The buffer read at a place of the slot is the slot read there. -/
theorem read_slot (c : Dev nD) (i : grid0.Coords) (k0_h1 : k0_cond1 i = 1#1) (m : Memref sig .tc .vmem S2x1024x128 .f32) (f : Buf (Elt F) (m.view.loc (c : Thread nD τ)))
    (s : Fin 2) (hs : s.val = (i 0).val % 2) (r : Fin 1024) (l : Fin 128) :
    m.view.read (Elt F) f (ix3 s r l) = (wrSlot i k0_h1 m).view.read (Elt F) f (ix2 r l) := by
  have e := slot_emb i k0_h1 m (ix2 r l) s hs
  simp only [ix2_0, ix2_1] at e
  show _root_.cast _ (f (m.view.emb _)) = _root_.cast _ (f ((wrSlot i k0_h1 m).view.emb _))
  rw [e]

/-- A row of the scale buffer's slot that a trip writes. -/
theorem read_trip13_hit (v : View sig .tc .vmem S1024x128 .f32) (g : v.ty.Contents (Elt F)) (i : grid0.Coords) (k0_h1 : k0_cond1 i = 1#1) (k : Fin k0_t1_loop.trips)
    (w : FVec F S32x128 .f32) (r : Fin 1024) (l : Fin 128) (a : Fin 32) (h : r.val = 128 * (i 1).val + 32 * k.val + a.val) :
    v.read (Elt F) ((v.slice (Rect.unit (s := S1024x128) (k0_off6 i k) S32x128.size (k0_off6_inb i k k0_h1))).write (Elt F) g w Finset.univ) (ix2 r l) = w (ix2 a l) := by
  have o := k0_off6_eq i k
  have hy : (Rect.unit (s := S1024x128) (k0_off6 i k) S32x128.size (k0_off6_inb i k k0_h1)).emb (ix2 a l) = (ix2 r l : S1024x128.Idx) := by
    refine funext (Fin.forall_fin_two.mpr ⟨Fin.ext ?_, Fin.ext ?_⟩)
    · show k0_off6 i k 0 + 1 * a.val = r.val; rw [o]; show 128 * (i 1).val + 32 * k.val + 1 * a.val = _; omega
    · show k0_off6 i k 1 + 1 * l.val = l.val; rw [o]; show 0 + 1 * l.val = _; omega
  rw [← hy]
  exact View.read_slice_write_emb _ _ _ (Finset.mem_univ _)

theorem read_trip13_miss (v : View sig .tc .vmem S1024x128 .f32) (g : v.ty.Contents (Elt F)) (i : grid0.Coords) (k0_h1 : k0_cond1 i = 1#1) (k : Fin k0_t1_loop.trips)
    (w : FVec F S32x128 .f32) (r : Fin 1024) (l : Fin 128) (h : r.val < 128 * (i 1).val + 32 * k.val ∨ 128 * (i 1).val + 32 * k.val + 32 ≤ r.val) :
    v.read (Elt F) ((v.slice (Rect.unit (s := S1024x128) (k0_off6 i k) S32x128.size (k0_off6_inb i k k0_h1))).write (Elt F) g w Finset.univ) (ix2 r l)
      = v.read (Elt F) g (ix2 r l) := by
  have o := k0_off6_eq i k
  refine View.read_slice_write_of_not_mem _ _ _ _ ?_
  rw [Rect.map_emb_univ, Rect.mem_set_unit]
  intro hall
  have h0 := hall (0 : Fin 2)
  rw [o] at h0
  have h1 : 128 * (i 1).val + 32 * k.val ≤ r.val := h0.1
  have h2 : r.val < 128 * (i 1).val + 32 * k.val + 32 := h0.2
  omega

/-- The scale buffer's slot after `k` trips. -/
theorem read_buf13_hit (c : Dev nD) (i : grid0.Coords) (k0_h1 : k0_cond1 i = 1#1) (m : Memref sig .tc .vmem S2x1024x128 .f32) (f : Buf (Elt F) (m.view.loc (c : Thread nD τ)))
    (x : Fin k0_t1_loop.trips → Vec F S32x5120 .bf16) (nw : Vec F S1x5120 .f32) :
    ∀ k : ℕ, k ≤ 4 → ∀ (r : Fin 1024) (l : Fin 128) (r' : Fin 128), r.val = 128 * (i 1).val + r'.val → r'.val < 32 * k →
      (wrSlot i k0_h1 m).view.read (Elt F) (buf13 c i k0_h1 m x nw f k) (ix2 r l) = chunkScales x nw r' l
  | 0, _, r, l, r', _, h => absurd h (by omega)
  | k + 1, hk, r, l, r', hr, h => by
    have hk' : k < k0_t1_loop.trips := by rw [trips4]; omega
    have e := buf13_succ c i k0_h1 m x nw f ⟨k, hk'⟩
    simp only [] at e
    rw [e]
    by_cases hr' : r'.val < 32 * k
    · refine (read_trip13_miss (wrSlot i k0_h1 m).view _ i k0_h1 ⟨k, hk'⟩ _ r l (Or.inl (by show r.val < 128 * (i 1).val + 32 * k; omega))).trans ?_
      exact read_buf13_hit c i k0_h1 m f x nw k (by omega) r l r' hr hr'
    · refine (read_trip13_hit (wrSlot i k0_h1 m).view _ i k0_h1 ⟨k, hk'⟩ _ r l ⟨r'.val - 32 * k, by omega⟩ (by show r.val = 128 * (i 1).val + 32 * k + (r'.val - 32 * k); omega)).trans ?_
      exact (chunkScales_band x nw ⟨k, hk'⟩ _ r' l (by show r'.val = 32 * k + (r'.val - 32 * k); omega)).symm

theorem read_buf13_miss (c : Dev nD) (i : grid0.Coords) (k0_h1 : k0_cond1 i = 1#1) (m : Memref sig .tc .vmem S2x1024x128 .f32) (f : Buf (Elt F) (m.view.loc (c : Thread nD τ)))
    (x : Fin k0_t1_loop.trips → Vec F S32x5120 .bf16) (nw : Vec F S1x5120 .f32) :
    ∀ k : ℕ, k ≤ 4 → ∀ (r : Fin 1024) (l : Fin 128), (r.val < 128 * (i 1).val ∨ 128 * (i 1).val + 128 ≤ r.val) →
      (wrSlot i k0_h1 m).view.read (Elt F) (buf13 c i k0_h1 m x nw f k) (ix2 r l) = (wrSlot i k0_h1 m).view.read (Elt F) f (ix2 r l)
  | 0, _, r, l, _ => rfl
  | k + 1, hk, r, l, h => by
    have hk' : k < k0_t1_loop.trips := by rw [trips4]; omega
    have e := buf13_succ c i k0_h1 m x nw f ⟨k, hk'⟩
    simp only [] at e
    rw [e]
    refine (read_trip13_miss (wrSlot i k0_h1 m).view _ i k0_h1 ⟨k, hk'⟩ _ r l (by show r.val < 128 * (i 1).val + 32 * k ∨ 128 * (i 1).val + 32 * k + 32 ≤ r.val; omega)).trans ?_
    exact read_buf13_miss c i k0_h1 m f x nw k (by omega) r l h

/-- The other slot of the scale buffer keeps what it held. -/
theorem read_buf13_other (c : Dev nD) (i : grid0.Coords) (k0_h1 : k0_cond1 i = 1#1) (m : Memref sig .tc .vmem S2x1024x128 .f32) (f : Buf (Elt F) (m.view.loc (c : Thread nD τ)))
    (x : Fin k0_t1_loop.trips → Vec F S32x5120 .bf16) (nw : Vec F S1x5120 .f32) :
    ∀ k : ℕ, k ≤ 4 → ∀ (s : Fin 2) (r : Fin 1024) (l : Fin 128), s.val ≠ (i 0).val % 2 →
      m.view.read (Elt F) (buf13 c i k0_h1 m x nw f k) (ix3 s r l) = m.view.read (Elt F) f (ix3 s r l)
  | 0, _, s, r, l, _ => rfl
  | k + 1, hk, s, r, l, h => by
    have hk' : k < k0_t1_loop.trips := by rw [trips4]; omega
    have e := buf13_succ c i k0_h1 m x nw f ⟨k, hk'⟩
    simp only [] at e
    rw [e]
    refine Eq.trans ?_ (read_buf13_other c i k0_h1 m f x nw k (by omega) s r l h)
    rw [View.read_apply, View.read_apply]
    refine congrArg (_root_.cast _) (View.write_of_not_mem _ _ _ fun hm => ?_)
    obtain ⟨z, -, hz⟩ := Finset.mem_map.mp hm
    have hz' : (wrSlot i k0_h1 m).view.emb ((Rect.unit (s := S1024x128) (k0_off6 i ⟨k, hk'⟩) S32x128.size (k0_off6_inb i ⟨k, hk'⟩ k0_h1)).emb z) = m.view.emb (ix3 s r l) := hz
    rw [slot_emb i k0_h1 m _ ⟨(i 0).val % 2, by omega⟩ rfl] at hz'
    have := congrFun (m.view.emb.injective hz') 0
    exact h (congrArg Fin.val this).symm

end Cert.KernelIdeal.Run
-- ==== Proof.Project.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.VecWindow
public import Idealize.ShloMosaic.Lib.Tactic
public import Idealize.ShloMosaic.Lib.WritesUnit
public import Idealize.ShloMosaic.Lib.ViewIndex
public import Idealize.ShloMosaic.Lib.Pointwise

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

/-! What one projection block holds: eight heads of one column block, each scaled, normalised or not, and stored two heads at a time. -/

theorem slicesHead (h : Fin 8) : S1024x1024.Slices ![0, 128 * h.val] S1024x128 := by revert h; decide

theorem inbHead (h : Fin 8) : ∀ a, (![0, 128 * h.val] : Fin 2 → ℕ) a + S1x128.size a ≤ S1x1024.size a := by revert h; decide

/-- Head `h` of the block before its norm: the accumulator's columns times the row scales times the column scales. -/
def headY (acc : FVec F S1024x1024 .f32) (hs : FVec F S1024x128 .f32) (X5 : Vec F S1x1024 .f32) (h : Fin 8) : FVec F S1024x128 .f32 :=
  mulf (mulf (extractStridedSlice S1024x128 ![0, 128 * h.val] acc (slicesHead h)) hs)
    (broadcastTo S1024x128 (shapeCast S1x128 (View.ld X5 (Rect.unit (s := S1x1024) ![0, 128 * h.val] S1x128.size (inbHead h))) shapeCasts_S1x128_S1x128) broadcasts_S1x128_S1024x128)

/-- The norm of a head and its weight. -/
def headNorm (y : FVec F S1024x128 .f32) (hw : FVec F S1x128 .f32) : FVec F S1024x128 .f32 :=
  mulf (mulf y (broadcastTo S1024x128 (rsqrt (addf (mulf (shapeCast S1024x1 (multiReduction .add [1] S1024 (mulf y y) 0x00000000#32 reduces_S1024x128_S1024 (.inl rfl) rfl) shapeCasts_S1024_S1024x1)
    (broadcast S1024x1 (Scalar.ofBits .f32 0x3C000000#32))) (broadcast S1024x1 (Scalar.ofBits .f32 0x358637BD#32)))) broadcasts_S1024x1_S1024x128))
    (broadcastTo S1024x128 hw broadcasts_S1x128_S1024x128)

/-- A head in the width it is stored in. -/
abbrev toBf (x : FVec F S1024x128 .f32) : FVec F S1024x128 .bf16 := truncf .bf16 x

/-- Two heads as one store takes them. -/
def pairBlk (lo hi : FVec F S1024x128 .f32) : Vec F S1024x2x128 .bf16 :=
  interleaveRows S1024x2x128 (shapeCast S1024x1x128 (toBf lo) shapeCasts_S1024x128_S1024x1x128)
    (shapeCast S1024x1x128 (toBf hi) shapeCasts_S1024x128_S1024x1x128) bitcasts_S1024x2x128_w16_S1024x1x128_w32

theorem castHead_apply (x : FVec F S1024x128 .f32) (r : Fin 1024) (a : Fin 1) (l : Fin 128) :
    shapeCast S1024x1x128 (toBf x) shapeCasts_S1024x128_S1024x1x128 (ix3 r a l) = toBf x (ix2 r l) := by
  have ha : a = 0 := Subsingleton.elim _ _
  subst ha
  pointwise

theorem pairBlk_lo (lo hi : FVec F S1024x128 .f32) (r : Fin 1024) (l : Fin 128) : pairBlk lo hi (ix3 r 0 l) = toBf lo (ix2 r l) := by
  have hr : S1024x2x128.row (ix3 r 0 l : S1024x2x128.Idx) % 2 = 0 := rfl
  unfold pairBlk interleaveRows
  rw [if_pos hr]
  refine Eq.trans ?_ (castHead_apply lo r 0 l)
  refine congrArg (shapeCast S1024x1x128 (toBf lo) shapeCasts_S1024x128_S1024x1x128) (Shape.idx3_ext rfl (congrArg Fin.val (Subsingleton.elim (α := Fin 1) _ _)) rfl)

theorem pairBlk_hi (lo hi : FVec F S1024x128 .f32) (r : Fin 1024) (l : Fin 128) : pairBlk lo hi (ix3 r 1 l) = toBf hi (ix2 r l) := by
  have hr : ¬ S1024x2x128.row (ix3 r 1 l : S1024x2x128.Idx) % 2 = 0 := by show ¬ (1 % 2 = 0); decide
  unfold pairBlk interleaveRows
  rw [if_neg hr]
  refine Eq.trans ?_ (castHead_apply hi r 0 l)
  refine congrArg (shapeCast S1024x1x128 (toBf hi) shapeCasts_S1024x128_S1024x1x128) (Shape.idx3_ext rfl (congrArg Fin.val (Subsingleton.elim (α := Fin 1) _ _)) rfl)

theorem pairBlk_apply (hd : Fin 8 → FVec F S1024x128 .f32) (p q : Fin 8) (r : Fin 1024) (b : Fin 2) (l : Fin 128) (h : Fin 8)
    (hp : b.val = 0 → h = p) (hq : b.val = 1 → h = q) : pairBlk (hd p) (hd q) (ix3 r b l) = toBf (hd h) (ix2 r l) := by
  match b with
  | ⟨0, _⟩ => rw [hp rfl]; exact pairBlk_lo _ _ _ _
  | ⟨1, _⟩ => rw [hq rfl]; exact pairBlk_hi _ _ _ _

/-- The four stores of a projection block, read back: head `h` of row `r`. -/
theorem read_pairs (v : View sig .tc .vmem S1024x8x128 .bf16) (f : v.ty.Contents (Elt F)) (hd : Fin 8 → FVec F S1024x128 .f32) :
    v.read (Elt F) (v.writes (Elt F) f
      [⟨Rect.unit (s := S1024x8x128) ![0, 6, 0] S1024x2x128.size inb_S1024x8x128_S1024x2x128_0_6_0, pairBlk (hd 6) (hd 7)⟩,
       ⟨Rect.unit (s := S1024x8x128) ![0, 4, 0] S1024x2x128.size inb_S1024x8x128_S1024x2x128_0_4_0, pairBlk (hd 4) (hd 5)⟩,
       ⟨Rect.unit (s := S1024x8x128) ![0, 2, 0] S1024x2x128.size inb_S1024x8x128_S1024x2x128_0_2_0, pairBlk (hd 2) (hd 3)⟩,
       ⟨Rect.unit (s := S1024x8x128) ![0, 0, 0] S1024x2x128.size inb_S1024x8x128_S1024x2x128_0_0_0, pairBlk (hd 0) (hd 1)⟩])
      = fun y : S1024x8x128.Idx => toBf (hd (y 1)) (ix2 (y 0) (y 2)) := by
  have key : ∀ (r : Fin 1024) (h : Fin 8) (l : Fin 128), v.read (Elt F) (v.writes (Elt F) f
      [⟨Rect.unit (s := S1024x8x128) ![0, 6, 0] S1024x2x128.size inb_S1024x8x128_S1024x2x128_0_6_0, pairBlk (hd 6) (hd 7)⟩,
       ⟨Rect.unit (s := S1024x8x128) ![0, 4, 0] S1024x2x128.size inb_S1024x8x128_S1024x2x128_0_4_0, pairBlk (hd 4) (hd 5)⟩,
       ⟨Rect.unit (s := S1024x8x128) ![0, 2, 0] S1024x2x128.size inb_S1024x8x128_S1024x2x128_0_2_0, pairBlk (hd 2) (hd 3)⟩,
       ⟨Rect.unit (s := S1024x8x128) ![0, 0, 0] S1024x2x128.size inb_S1024x8x128_S1024x2x128_0_0_0, pairBlk (hd 0) (hd 1)⟩]) (ix3 r h l)
      = toBf (hd h) (ix2 r l) := by
    intro r h l
    have mem : ∀ (o : ℕ) (b : Fin 2), h.val = o + b.val → ∀ a : Fin 3, ((ix3 r h l : S1024x8x128.Idx) a).val = (![0, o, 0] : Fin 3 → ℕ) a + ((ix3 r b l : S1024x2x128.Idx) a).val :=
      fun o b hb => Fin.forall_fin_succ.mpr ⟨by show r.val = 0 + r.val; omega, Fin.forall_fin_two.mpr ⟨hb, by show l.val = 0 + l.val; omega⟩⟩
    by_cases h6 : 6 ≤ h.val
    · rw [View.read_writes_cons_unit_of_mem _ _ _ _ _ _ (ix3 r ⟨h.val - 6, by omega⟩ l) rfl (mem 6 _ (by show h.val = 6 + (h.val - 6); omega))]
      exact pairBlk_apply hd 6 7 r _ l h (fun e => Fin.ext (by show h.val = 6; simp only [] at e; omega)) (fun e => Fin.ext (by show h.val = 7; simp only [] at e; omega))
    rw [View.read_writes_cons_unit_of_not_mem _ _ _ _ _ _ rfl (1 : Fin 3) (Or.inl (by show h.val < 6; omega))]
    by_cases h4 : 4 ≤ h.val
    · rw [View.read_writes_cons_unit_of_mem _ _ _ _ _ _ (ix3 r ⟨h.val - 4, by omega⟩ l) rfl (mem 4 _ (by show h.val = 4 + (h.val - 4); omega))]
      exact pairBlk_apply hd 4 5 r _ l h (fun e => Fin.ext (by show h.val = 4; simp only [] at e; omega)) (fun e => Fin.ext (by show h.val = 5; simp only [] at e; omega))
    rw [View.read_writes_cons_unit_of_not_mem _ _ _ _ _ _ rfl (1 : Fin 3) (Or.inl (by show h.val < 4; omega))]
    by_cases h2 : 2 ≤ h.val
    · rw [View.read_writes_cons_unit_of_mem _ _ _ _ _ _ (ix3 r ⟨h.val - 2, by omega⟩ l) rfl (mem 2 _ (by show h.val = 2 + (h.val - 2); omega))]
      exact pairBlk_apply hd 2 3 r _ l h (fun e => Fin.ext (by show h.val = 2; simp only [] at e; omega)) (fun e => Fin.ext (by show h.val = 3; simp only [] at e; omega))
    rw [View.read_writes_cons_unit_of_not_mem _ _ _ _ _ _ rfl (1 : Fin 3) (Or.inl (by show h.val < 2; omega))]
    rw [View.read_writes_cons_unit_of_mem _ _ _ _ _ _ (ix3 r ⟨h.val - 0, by omega⟩ l) rfl (mem 0 _ (by show h.val = 0 + (h.val - 0); omega))]
    exact pairBlk_apply hd 0 1 r _ l h (fun e => Fin.ext (by show h.val = 0; simp only [] at e; omega)) (fun e => Fin.ext (by show h.val = 1; simp only [] at e; omega))
  funext y
  rw [eq_ix3 (n0 := 1024) (n1 := 8) (n2 := 128) y]
  exact key (y 0) (y 1) (y 2)

/-- The heads of a normalised block from what it loads: the codes, the weights, the row scales, the column scales, the norm weight. -/
def normHeads (cs : Vec F S1x1024x5120 .fp8e4m3) (w : Vec F S5120x1024 .fp8e4m3) (hs : Vec F S1x1024x128 .f32) (X5 : Vec F S1x1024 .f32) (hw : Vec F S1x128 .f32)
    (h : Fin 8) : FVec F S1024x128 .f32 := headNorm (headY (k0_pay24 cs w) (k0_pay25 hs) X5 h) (k0_pay23 hw)

/-- The heads of a block that is not normalised. -/
def plainHeads (cs : Vec F S1x1024x5120 .fp8e4m3) (w : Vec F S5120x1024 .fp8e4m3) (hs : Vec F S1x1024x128 .f32) (X5 : Vec F S1x1024 .f32)
    (h : Fin 8) : FVec F S1024x128 .f32 := headY (k0_pay24 cs w) (k0_pay25 hs) X5 h

/-- A block of eight heads as it is stored. -/
def blkOf (hd : Fin 8 → FVec F S1024x128 .f32) : S1024x8x128.Idx → Elt F .bf16 := fun y : S1024x8x128.Idx => toBf (hd (y 1)) (ix2 (y 0) (y 2))

end Cert.KernelIdeal.Run
-- ==== Proof.Stores.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.VecWindow
public import Idealize.ShloMosaic.Lib.Tactic
public import proofs.«01_k».proof.Proof.Written
public import Idealize.ShloMosaic.Lib.TopK.GroupedStream

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

/-! The row of scales that a chunk stores over the tokens: which lanes, which batch row, and what it leaves elsewhere. -/

/-- The first token of the chunk, as a word. -/
def tokW (i : grid0.Coords) : BitVec 32 :=
  Scalar.addi (Scalar.muli (BitVec.ofNat 32 (i 0).val) 1024#32) (Scalar.muli (BitVec.ofNat 32 (i 1).val) 128#32)

/-- The mask of the store: the batch row that holds the chunk's tokens. -/
def maskOf (i : grid0.Coords) : IVec S6x128 1 :=
  k0_pay2 (tokW i) (iota .tc S6x128 32 [0] iota_S6x128_d0_w32) 4096#32 (Scalar.divsi (tokW i) 4096#32)
    (Scalar.subi (Scalar.extui (Scalar.cmpi .sgt (tokW i) 0#32)) (Scalar.extui (Scalar.cmpi .slt (tokW i) 0#32))) 0#32

theorem off9_eq : ∀ i : grid0.Coords, k0_off9 i = ![0, 128 * ((8 * (i 0).val + (i 1).val) % 32)] := by decide +kernel

/-- The batch row of a chunk, as the kernel computes it. -/
def rowW (i : grid0.Coords) : BitVec 32 :=
  Scalar.select (Scalar.andi (Scalar.cmpi .ne (Scalar.subi (Scalar.extui (Scalar.cmpi .sgt (tokW i) 0#32)) (Scalar.extui (Scalar.cmpi .slt (tokW i) 0#32)))
      (Scalar.subi (Scalar.extui (Scalar.cmpi .sgt 4096#32 0#32)) (Scalar.extui (Scalar.cmpi .slt 4096#32 0#32))))
      (Scalar.cmpi .ne (Scalar.remsi (tokW i) 4096#32) 0#32))
    (Scalar.subi (Scalar.divsi (tokW i) 4096#32) 1#32) (Scalar.divsi (tokW i) 4096#32)

theorem rowW_eq : ∀ i : grid0.Coords, rowW i = BitVec.ofNat 32 ((8 * (i 0).val + (i 1).val) / 32) := by decide +kernel

theorem cond1_lt : ∀ i : grid0.Coords, k0_cond1 i = 1#1 → (i 0).val < 24 ∧ (i 1).val < 8 := by decide +kernel

theorem maskOf_apply (i : grid0.Coords) (b : Fin 6) (l : Fin 128) :
    maskOf i (ix2 b l) = Scalar.cmpi .eq (BitVec.ofNat 32 b.val) (rowW i) := by
  unfold maskOf k0_pay2 rowW
  pointwise
  rfl

theorem mask_iff (i : grid0.Coords) (h : k0_cond1 i = 1#1) (b : Fin 6) (l : Fin 128) :
    maskOf i (ix2 b l) = 1#1 ↔ b.val = (8 * (i 0).val + (i 1).val) / 32 := by
  rw [maskOf_apply, rowW_eq]
  have := cond1_lt i h
  have hq : (8 * (i 0).val + (i 1).val) / 32 < 6 := by omega
  generalize (8 * (i 0).val + (i 1).val) / 32 = q at hq
  revert b q
  decide

/-- One row of scales over the chunk's tokens: the diagonal of the chunk's scales. -/
def diagRow (S : Fin 128 → Fin 128 → Elt F .f32) (b : Fin 6) (l : Fin 128) : Elt F .f32 :=
  k0_pay1 (k0_pay22 (fun y : S128x128.Idx => S (y 0) (y 1))) (ix2 b l)

/-- What the store of the chunk's scales does to the array of scales. -/
structure New11 (i : grid0.Coords) (D : Fin 6 → Fin 128 → Elt F .f32) (old new : S6x4096.Idx → Elt F .f32) : Prop where
  hit : ∀ (b : Fin 6) (j : Fin 4096) (l : Fin 128), b.val = (8 * (i 0).val + (i 1).val) / 32 → j.val = 128 * ((8 * (i 0).val + (i 1).val) % 32) + l.val →
    new (ix2 b j) = D b l
  miss : ∀ (b : Fin 6) (j : Fin 4096), ¬ (b.val = (8 * (i 0).val + (i 1).val) / 32 ∧ j.val / 128 = (8 * (i 0).val + (i 1).val) % 32) →
    new (ix2 b j) = old (ix2 b j)

/-- What a chunk's codes do to the code buffer. -/
structure New12 (i : grid0.Coords) (C : Fin 128 → Fin 5120 → Elt F .fp8e4m3) (old new : S2x1024x5120.Idx → Elt F .fp8e4m3) : Prop where
  hit : ∀ (s : Fin 2) (r : Fin 1024) (j : Fin 5120) (r' : Fin 128), s.val = (i 0).val % 2 → r.val = 128 * (i 1).val + r'.val → new (ix3 s r j) = C r' j
  miss : ∀ (s : Fin 2) (r : Fin 1024) (j : Fin 5120), (s.val = (i 0).val % 2 → r.val < 128 * (i 1).val ∨ 128 * (i 1).val + 128 ≤ r.val) →
    new (ix3 s r j) = old (ix3 s r j)

/-- What a chunk's scales do to the scale buffer. -/
structure New13 (i : grid0.Coords) (S : Fin 128 → Fin 128 → Elt F .f32) (old new : S2x1024x128.Idx → Elt F .f32) : Prop where
  hit : ∀ (s : Fin 2) (r : Fin 1024) (l : Fin 128) (r' : Fin 128), s.val = (i 0).val % 2 → r.val = 128 * (i 1).val + r'.val → new (ix3 s r l) = S r' l
  miss : ∀ (s : Fin 2) (r : Fin 1024) (l : Fin 128), (s.val = (i 0).val % 2 → r.val < 128 * (i 1).val ∨ 128 * (i 1).val + 128 ≤ r.val) →
    new (ix3 s r l) = old (ix3 s r l)

theorem new12 (v : View sig .tc .vmem S2x1024x5120 .fp8e4m3) (g : v.ty.Contents (Elt F)) (i : grid0.Coords) (k0_h1 : k0_cond1 i = 1#1)
    (x : Fin k0_t1_loop.trips → Vec F S32x5120 .bf16) (nw : Vec F S1x5120 .f32) :
    New12 i (chunkCodes x nw) (v.read (Elt F) g) (v.read (Elt F) (v.writes (Elt F) g (pcs12 i k0_h1 x nw 4))) where
  hit s r j r' hs hr := read_pcs12_hit v g i k0_h1 x nw 4 le_rfl s r j r' hs hr r'.isLt
  miss s r j h := read_pcs12_miss v g i k0_h1 x nw 4 le_rfl s r j h

theorem new13 (c : Dev nD) (i : grid0.Coords) (k0_h1 : k0_cond1 i = 1#1) (m : Memref sig .tc .vmem S2x1024x128 .f32) (f : Buf (Elt F) (m.view.loc (c : Thread nD τ)))
    (x : Fin k0_t1_loop.trips → Vec F S32x5120 .bf16) (nw : Vec F S1x5120 .f32) :
    New13 i (chunkScales x nw) (m.view.read (Elt F) f) (m.view.read (Elt F) (buf13 c i k0_h1 m x nw f 4)) where
  hit s r l r' hs hr := (read_slot c i k0_h1 m _ s hs r l).trans (read_buf13_hit c i k0_h1 m f x nw 4 le_rfl r l r' hr r'.isLt)
  miss s r l h := by
    by_cases hs : s.val = (i 0).val % 2
    · exact (read_slot c i k0_h1 m _ s hs r l).trans ((read_buf13_miss c i k0_h1 m f x nw 4 le_rfl r l (h hs)).trans (read_slot c i k0_h1 m _ s hs r l).symm)
    · exact read_buf13_other c i k0_h1 m f x nw 4 le_rfl s r l hs

/-- The rows of the slot that the chunk wrote, loaded back. -/
theorem load_slot (c : Dev nD) (i : grid0.Coords) (k0_h1 : k0_cond1 i = 1#1) (m : Memref sig .tc .vmem S2x1024x128 .f32) (f : Buf (Elt F) (m.view.loc (c : Thread nD τ)))
    (x : Fin k0_t1_loop.trips → Vec F S32x5120 .bf16) (nw : Vec F S1x5120 .f32) :
    (wrSlot i k0_h1 m).view.readAt (Elt F) (Rect.unit (s := S1024x128) (k0_off8 i) S128x128.size (k0_off8_inb i k0_h1)).toLoadRect (buf13 c i k0_h1 m x nw f 4)
      = fun y : S128x128.Idx => chunkScales x nw (y 0) (y 1) := by
  have o := k0_off8_eq i
  have h8 := cond1_lt i k0_h1
  have key : ∀ (r : Fin 128) (l : Fin 128), (wrSlot i k0_h1 m).view.readAt (Elt F) (Rect.unit (s := S1024x128) (k0_off8 i) S128x128.size (k0_off8_inb i k0_h1)).toLoadRect (buf13 c i k0_h1 m x nw f 4) (ix2 r l) = chunkScales x nw r l := by
    intro r l
    have hy : (Rect.unit (s := S1024x128) (k0_off8 i) S128x128.size (k0_off8_inb i k0_h1)).emb (ix2 r l) = (ix2 (⟨128 * (i 1).val + r.val, by omega⟩ : Fin 1024) l : S1024x128.Idx) := by
      refine funext (Fin.forall_fin_two.mpr ⟨Fin.ext ?_, Fin.ext ?_⟩)
      · show k0_off8 i 0 + 1 * r.val = _; rw [o]; show 128 * (i 1).val + 1 * r.val = 128 * (i 1).val + r.val; omega
      · show k0_off8 i 1 + 1 * l.val = l.val; rw [o]; show 0 + 1 * l.val = _; omega
    refine Eq.trans ?_ (read_buf13_hit c i k0_h1 m f x nw 4 le_rfl ⟨128 * (i 1).val + r.val, by omega⟩ l r rfl r.isLt)
    exact congrArg ((wrSlot i k0_h1 m).view.read (Elt F) (buf13 c i k0_h1 m x nw f 4)) hy
  funext y
  rw [eq_ix2 (n0 := 128) (n1 := 128) y]
  exact key (y 0) (y 1)

/-- The masked store of the row of scales. -/
theorem new11 (v : View sig .tc .vmem S6x4096 .f32) (f : v.ty.Contents (Elt F)) (i : grid0.Coords) (k0_h1 : k0_cond1 i = 1#1) (S : Fin 128 → Fin 128 → Elt F .f32) :
    New11 i (diagRow S) (v.read (Elt F) f) (v.read (Elt F) ((v.slice (Rect.unit (s := S6x4096) (k0_off9 i) S6x128.size (k0_off9_inb i k0_h1))).write (Elt F) f
      (k0_pay1 (k0_pay22 (fun y : S128x128.Idx => S (y 0) (y 1)))) (IVec.on (maskOf i)))) := by
  have o := off9_eq i
  have h8 := cond1_lt i k0_h1
  have emb : ∀ (b : Fin 6) (j : Fin 4096) (l : Fin 128), j.val = 128 * ((8 * (i 0).val + (i 1).val) % 32) + l.val →
      (Rect.unit (s := S6x4096) (k0_off9 i) S6x128.size (k0_off9_inb i k0_h1)).emb (ix2 b l) = (ix2 b j : S6x4096.Idx) := by
    intro b j l hj
    refine funext (Fin.forall_fin_two.mpr ⟨Fin.ext ?_, Fin.ext ?_⟩)
    · show k0_off9 i 0 + 1 * b.val = _; rw [o]; show 0 + 1 * b.val = b.val; omega
    · show k0_off9 i 1 + 1 * l.val = j.val; rw [o]; show 128 * ((8 * (i 0).val + (i 1).val) % 32) + 1 * l.val = _; omega
  constructor
  · intro b j l hb hj
    rw [← emb b j l hj]
    exact View.read_slice_write_emb _ _ _ ((IVec.mem_on_iff _ _).mpr ((mask_iff i k0_h1 b l).mpr hb))
  · intro b j h
    refine View.read_slice_write_of_not_mem _ _ _ _ fun hm => ?_
    obtain ⟨z, hz, e⟩ := Finset.mem_map.mp hm
    obtain ⟨b', l', rfl⟩ : ∃ (b' : Fin 6) (l' : Fin 128), z = ix2 b' l' := ⟨z 0, z 1, eq_ix2 (n0 := 6) (n1 := 128) z⟩
    have hb := (mask_iff i k0_h1 _ _).mp ((IVec.mem_on_iff _ _).mp hz)
    have e0 : k0_off9 i 0 + 1 * b'.val = b.val := congrArg Fin.val (congrFun e (0 : Fin 2))
    have e1 : k0_off9 i 1 + 1 * l'.val = j.val := congrArg Fin.val (congrFun e (1 : Fin 2))
    have o0 : k0_off9 i 0 = 0 := congrFun o (0 : Fin 2)
    have o1 : k0_off9 i 1 = 128 * ((8 * (i 0).val + (i 1).val) % 32) := congrFun o (1 : Fin 2)
    have l1 : l'.val < 128 := l'.isLt
    exact h ⟨by omega, by omega⟩

end Cert.KernelIdeal.Run
-- ==== Proof.Spec.lean ====
module

public import Idealize.ShloMosaic.Lib.Pointwise

@[expose] public section

noncomputable section

namespace Cert.Spec

open Idealize.ShloMosaic

/-! The mathematics that both programs compute, over the extended reals, one row or one entry at a time. -/

/-- The small constant under the square roots. -/
def eps : EReal := Ideal.ofBits .f32 0x358637BD#32

/-- The single-precision constant `1 / 448`. -/
def c448 : EReal := Ideal.ofBits .f32 0x3B124925#32

/-- The row's root-mean-square norm with its weight. -/
def hRow (x nw : Fin 5120 → EReal) (j : Fin 5120) : EReal :=
  x j * Ideal.rsqrt ((∑ k, x k * x k) * ((1 / 5120 : ℝ) : EReal) + eps) * nw j

/-- The exponent of the scale: `2 ^ (e - 1) ≤ v < 2 ^ e`, for a `v` in the normal range that leaves room for the inverse, else `0`. -/
def expo (v : EReal) : ℤ :=
  if (((2 : ℝ) ^ (-126 : ℤ) : ℝ) : EReal) ≤ v ∧ v < (((2 : ℝ) ^ (126 : ℤ) : ℝ) : EReal) then ⌊Real.log v.toReal / Real.log 2⌋ + 1 else 0

/-- The scale of a row, a power of two. -/
def scaleOf (v : EReal) : EReal := (((2 : ℝ) ^ expo v : ℝ) : EReal)

/-- The inverse of the scale. -/
def invOf (v : EReal) : EReal := (((2 : ℝ) ^ (-expo v) : ℝ) : EReal)

/-- The largest magnitude of a row over `448`. -/
def peak (x nw : Fin 5120 → EReal) : EReal := (Finset.univ.sup fun j => max (hRow x nw j) (-hRow x nw j)) * c448

/-- The code of an entry: scaled and clipped. -/
def code (x nw : Fin 5120 → EReal) (j : Fin 5120) : EReal :=
  min (Ideal.ofBits .f32 0x43E00000#32) (max (Ideal.ofBits .f32 0xC3E00000#32) (hRow x nw j * invOf (peak x nw)))

/-- The scale of a row. -/
def scale (x nw : Fin 5120 → EReal) : EReal := scaleOf (peak x nw)

/-- One entry of the projection, scaled back. -/
def proj (x nw w : Fin 5120 → EReal) (ws : EReal) : EReal :=
  (∑ k, code x nw k * w k) * scale x nw * ws

/-- The norm of a head with its weight. -/
def headRow (y g : Fin 128 → EReal) (l : Fin 128) : EReal :=
  y l * Ideal.rsqrt ((∑ k, y k * y k) * ((1 / 128 : ℝ) : EReal) + eps) * g l

/-! The arguments by their coordinates. -/

/-- The tokens of all sequences, one after the other. -/
def tokens (A : (⟨3, ![6, 4096, 5120]⟩ : Shape).Idx → EReal) (t : Fin 24576) (k : Fin 5120) : EReal :=
  A (ix3 ⟨t.val / 4096, by omega⟩ ⟨t.val % 4096, by omega⟩ k)

/-- A vector. -/
def vec {n : ℕ} (A : (⟨1, ![n]⟩ : Shape).Idx → EReal) (k : Fin n) : EReal := A (ix1 k)

/-- A matrix. -/
def mat {a b : ℕ} (A : (⟨2, ![a, b]⟩ : Shape).Idx → EReal) (k : Fin a) (c : Fin b) : EReal := A (ix2 k c)

/-! The five results, from the tokens `X`, the norm's weight `N`, the projection's weight `W` with its column scales `S`, and a head norm's weight `G`. -/

section Results
variable (X : Fin 24576 → Fin 5120 → EReal) (N : Fin 5120 → EReal) (W : Fin 5120 → Fin 10240 → EReal) (S : Fin 10240 → EReal) (G : Fin 128 → EReal)

/-- Column `c` of the projection of token `t`. -/
def projAt (t : Fin 24576) (c : Fin 10240) : EReal := proj (X t) N (fun k => W k c) (S c)

/-- The queries: the first 64 heads, normed. -/
def queries (t : Fin 24576) (h : Fin 64) (l : Fin 128) : EReal :=
  headRow (fun k => projAt X N W S t ⟨h.val * 128 + k.val, by omega⟩) G l

/-- The keys: the next 8 heads, normed. -/
def keys (t : Fin 24576) (h : Fin 8) (l : Fin 128) : EReal :=
  headRow (fun k => projAt X N W S t ⟨8192 + (h.val * 128 + k.val), by omega⟩) G l

/-- The values: the last 8 heads. -/
def vals (t : Fin 24576) (h : Fin 8) (l : Fin 128) : EReal :=
  projAt X N W S t ⟨9216 + (h.val * 128 + l.val), by omega⟩

end Results

end Cert.Spec
-- ==== Proof.Exponent.lean ====
module

public import proofs.«01_k».proof.Proof.Spec

@[expose] public section

noncomputable section

namespace Cert.Spec

open Idealize.ShloMosaic

/-! The exponent of a number that is not negative, found bit by bit by comparisons with powers of two, is the floor of its logarithm. -/

/-- One step of the search: the bit is kept if the power of two whose exponent field has it is not above `v`. -/
def stepW (v : EReal) (f b : BitVec 32) : BitVec 32 :=
  Scalar.select (FloatOps.cmpf (F := Ideal) (φ := .f32) .oge v (FloatOps.ofBits (F := Ideal) .f32 (IntOp.shli .vector (IntOp.addi f b) 23#32))) (IntOp.addi f b) f

/-- The field found. -/
def fieldW (v : EReal) : BitVec 32 :=
  stepW v (stepW v (stepW v (stepW v (stepW v (stepW v (stepW v (stepW v 0#32 128#32) 64#32) 32#32) 16#32) 8#32) 4#32) 2#32) 1#32

/-- The field, with `255` for what lies above the range. -/
def cutW (v : EReal) : BitVec 32 :=
  Scalar.select (FloatOps.cmpf (F := Ideal) (φ := .f32) .olt v (FloatOps.ofBits (F := Ideal) .f32 0x7E800000#32)) (fieldW v) 255#32

/-- The exponent as a word. -/
def expoW (v : EReal) : BitVec 32 :=
  Scalar.select (IntOp.ori (IntOp.cmpi .eq (cutW v) 0#32) (IntOp.cmpi .eq (cutW v) 255#32)) 0#32 (IntOp.subi (cutW v) 126#32)

/-- The float whose exponent field is `n`, all other bits zero. -/
def pow (n : ℕ) : EReal := Ideal.ofBits .f32 (BitVec.ofNat 32 n <<< 23)

theorem field_eq : ∀ n : Fin 256, ((BitVec.ofNat 32 n.val <<< 23).extractLsb' 23 8).toNat = n.val ∧ ((BitVec.ofNat 32 n.val <<< 23).extractLsb' 0 23).toNat = 0
    ∧ ((BitVec.ofNat 32 n.val <<< 23).extractLsb' 31 1 == 1#1) = false := by decide +kernel

theorem ieee_of (b : BitVec 32) (n : ℕ) (a : (b.extractLsb' 23 8).toNat = n) (f : (b.extractLsb' 0 23).toNat = 0) (s : (b.extractLsb' 31 1 == 1#1) = false) :
    Ideal.ieee 8 23 b = if n = 2 ^ 8 - 1 then ⊤ else if n = 0 then (((1 * (0 : ℕ) * (2 : ℝ) ^ (1 - (2 ^ (8 - 1) - 1) - (23 : ℕ) : ℤ)) : ℝ) : EReal)
      else (((1 * (2 ^ 23 + 0 : ℕ) * (2 : ℝ) ^ ((n : ℤ) - (2 ^ (8 - 1) - 1) - (23 : ℕ))) : ℝ) : EReal) := by
  unfold Ideal.ieee
  rw [a, f]
  have s' : (b.extractLsb' (8 + 23) 1 == 1#1) = false := s
  rw [s']
  rfl

theorem pow_eq (n : ℕ) (h1 : 1 ≤ n) (h2 : n ≤ 254) : pow n = (((2 : ℝ) ^ ((n : ℤ) - 127) : ℝ) : EReal) := by
  obtain ⟨a, b, c⟩ := field_eq ⟨n, by omega⟩
  refine (ieee_of _ n a b c).trans ?_
  rw [if_neg (by omega), if_neg (by omega)]
  refine congrArg (fun r : ℝ => (r : EReal)) ?_
  have e : ((n : ℤ) - 127) = 23 + ((n : ℤ) - (2 ^ (8 - 1) - 1) - (23 : ℕ)) := by norm_num
  conv_rhs => rw [e, zpow_add₀ (by norm_num : (2 : ℝ) ≠ 0)]
  norm_num

theorem pow_top : pow 255 = ⊤ := by
  obtain ⟨a, b, c⟩ := field_eq ⟨255, by omega⟩
  exact (ieee_of _ 255 a b c).trans (if_pos rfl)

theorem pow_mono (a b : ℕ) (h1 : 1 ≤ a) (hab : a ≤ b) (h2 : b ≤ 255) : pow a ≤ pow b := by
  rcases Nat.lt_or_ge b 255 with hb | hb
  · rw [pow_eq a h1 (by omega), pow_eq b (by omega) (by omega)]
    exact EReal.coe_le_coe_iff.mpr (zpow_le_zpow_right₀ (by norm_num) (by omega))
  · rw [show b = 255 by omega, pow_top]; exact le_top

open Classical in
/-- One step of the search on numbers. -/
def stepN (v : EReal) (n b : ℕ) : ℕ := if pow (n + b) ≤ v then n + b else n

theorem stepW_ofNat (v : EReal) (n b : ℕ) : stepW v (BitVec.ofNat 32 n) (BitVec.ofNat 32 b) = BitVec.ofNat 32 (stepN v n b) := by
  have e : IntOp.addi (BitVec.ofNat 32 n) (BitVec.ofNat 32 b) = BitVec.ofNat 32 (n + b) := (BitVec.ofNat_add n b).symm
  have e2 : IntOp.shli .vector (BitVec.ofNat 32 (n + b)) 23#32 = BitVec.ofNat 32 (n + b) <<< 23 := rfl
  unfold stepW stepN
  rw [e, e2]
  show Scalar.select (Ideal.cmp .oge v (pow (n + b))) _ _ = _
  unfold Ideal.cmp Scalar.select
  by_cases h : pow (n + b) ≤ v <;> simp [h]

/-- What the search keeps: the powers up to `n` are not above `v`, the power of `n + w` is. -/
def Found (v : EReal) (n w : ℕ) : Prop := (n = 0 ∨ pow n ≤ v) ∧ (n + w = 256 ∨ v < pow (n + w)) ∧ n + w ≤ 256

theorem Found.step {v : EReal} {n b : ℕ} (h : Found v n (b + b)) : Found v (stepN v n b) b := by
  unfold stepN
  by_cases c : pow (n + b) ≤ v
  · rw [if_pos c]
    exact ⟨Or.inr c, by rw [Nat.add_assoc]; exact h.2.1, by rw [Nat.add_assoc]; exact h.2.2⟩
  · rw [if_neg c]
    exact ⟨h.1, Or.inr (not_le.mp c), by have := h.2.2; omega⟩

/-- The field found, as a number. -/
def fieldN (v : EReal) : ℕ :=
  stepN v (stepN v (stepN v (stepN v (stepN v (stepN v (stepN v (stepN v 0 128) 64) 32) 16) 8) 4) 2) 1

theorem fieldW_eq (v : EReal) : fieldW v = BitVec.ofNat 32 (fieldN v) := by
  unfold fieldW fieldN
  simp only [stepW_ofNat]

theorem found (v : EReal) : Found v (fieldN v) 1 := by
  have h0 : Found v 0 (128 + 128) := ⟨Or.inl rfl, Or.inl rfl, le_rfl⟩
  exact h0.step.step (b := 64) |>.step (b := 32) |>.step (b := 16) |>.step (b := 8) |>.step (b := 4) |>.step (b := 2) |>.step (b := 1)

theorem lo_eq : (((2 : ℝ) ^ (-126 : ℤ) : ℝ) : EReal) = pow 1 := (pow_eq 1 le_rfl (by omega)).symm

theorem hi_eq : (((2 : ℝ) ^ (126 : ℤ) : ℝ) : EReal) = pow 253 := (pow_eq 253 (by omega) (by omega)).symm

theorem hi_bits : Ideal.ofBits .f32 0x7E800000#32 = (((2 : ℝ) ^ (126 : ℤ) : ℝ) : EReal) := hi_eq.symm

theorem lo_bits : Ideal.ofBits .f32 0x00800000#32 = (((2 : ℝ) ^ (-126 : ℤ) : ℝ) : EReal) := lo_eq.symm

/-- In the normal range the exponent is the field less `126`. -/
theorem expo_field (v : EReal) (h1 : pow 1 ≤ v) (h2 : v < pow 253) : 1 ≤ fieldN v ∧ fieldN v ≤ 252 ∧ expo v = (fieldN v : ℤ) - 126 := by
  obtain ⟨a, b, c⟩ := found v
  have f1 : 1 ≤ fieldN v := by
    rcases Nat.lt_or_ge (fieldN v) 1 with h | h
    · have e : fieldN v = 0 := by omega
      rw [e] at b
      exact absurd h1 (not_le.mpr (b.resolve_left (by omega)))
    · exact h
  have f2 : fieldN v ≤ 252 := by
    rcases Nat.lt_or_ge 252 (fieldN v) with h | h
    · exact absurd ((pow_mono 253 _ (by omega) h (by omega)).trans (a.resolve_left (by omega))) (not_le.mpr h2)
    · exact h
  refine ⟨f1, f2, ?_⟩
  have a' := a.resolve_left (by omega)
  have b' := b.resolve_left (by omega)
  unfold expo
  rw [lo_eq, hi_eq, if_pos ⟨h1, h2⟩]
  rw [pow_eq _ f1 (by omega)] at a'
  rw [pow_eq _ (by omega) (by omega)] at b'
  obtain ⟨r, rfl⟩ : ∃ r : ℝ, (r : EReal) = v := ⟨v.toReal, EReal.coe_toReal (ne_top_of_lt b') (ne_bot_of_gt (lt_of_lt_of_le (EReal.bot_lt_coe _) a'))⟩
  rw [EReal.toReal_coe]
  rw [EReal.coe_le_coe_iff] at a'
  rw [EReal.coe_lt_coe_iff] at b'
  have hl : 0 < Real.log 2 := Real.log_pos (by norm_num)
  have hr : 0 < r := lt_of_lt_of_le (zpow_pos (by norm_num) _) a'
  have a2 := Real.log_le_log (zpow_pos (by norm_num) _) a'
  have b2 := Real.log_lt_log hr b'
  rw [Real.log_zpow] at a2 b2
  have : ⌊Real.log r / Real.log 2⌋ = (fieldN ↑r : ℤ) - 127 := by
    rw [Int.floor_eq_iff]
    constructor
    · rw [le_div_iff₀ hl]; exact a2
    · rw [div_lt_iff₀ hl]
      refine lt_of_lt_of_le b2 (le_of_eq ?_)
      push_cast; ring
  rw [this]; ring

theorem expo_zero (v : EReal) (h : ¬ (pow 1 ≤ v ∧ v < pow 253)) : expo v = 0 := by
  unfold expo; rw [lo_eq, hi_eq, if_neg h]

theorem fieldN_small (v : EReal) (h : v < pow 1) : fieldN v = 0 := by
  obtain ⟨a, b, c⟩ := found v
  rcases a with a | a
  · exact a
  · by_contra hn
    exact absurd ((pow_mono 1 _ le_rfl (by omega) (by omega)).trans a) (not_le.mpr h)

theorem cutW_eq (v : EReal) : cutW v = if v < pow 253 then BitVec.ofNat 32 (fieldN v) else 255#32 := by
  unfold cutW
  rw [fieldW_eq]
  show Scalar.select (Ideal.cmp .olt v (pow 253)) _ _ = _
  unfold Ideal.cmp Scalar.select
  by_cases h : v < pow 253 <;> simp [h]

theorem words : ∀ n : Fin 253, 1 ≤ n.val →
    IntOp.shli .vector (IntOp.addi 127#32 (Scalar.select (IntOp.ori (IntOp.cmpi .eq (BitVec.ofNat 32 n.val) 0#32) (IntOp.cmpi .eq (BitVec.ofNat 32 n.val) 255#32)) 0#32 (IntOp.subi (BitVec.ofNat 32 n.val) 126#32))) 23#32 = BitVec.ofNat 32 (n.val + 1) <<< 23
    ∧ IntOp.shli .vector (IntOp.subi 127#32 (Scalar.select (IntOp.ori (IntOp.cmpi .eq (BitVec.ofNat 32 n.val) 0#32) (IntOp.cmpi .eq (BitVec.ofNat 32 n.val) 255#32)) 0#32 (IntOp.subi (BitVec.ofNat 32 n.val) 126#32))) 23#32 = BitVec.ofNat 32 (253 - n.val) <<< 23 := by
  decide +kernel

theorem shift_zero : IntOp.shli .vector (IntOp.addi 127#32 0#32) 23#32 = BitVec.ofNat 32 127 <<< 23
    ∧ IntOp.shli .vector (IntOp.subi 127#32 0#32) 23#32 = BitVec.ofNat 32 127 <<< 23 := by decide +kernel

theorem expoW_zero (v : EReal) (h : ¬ (pow 1 ≤ v ∧ v < pow 253)) : expoW v = 0#32 := by
  unfold expoW
  rw [cutW_eq]
  by_cases h2 : v < pow 253
  · have h1 : v < pow 1 := not_le.mp fun h1 => h ⟨h1, h2⟩
    rw [if_pos h2, fieldN_small v h1]; rfl
  · rw [if_neg h2]; rfl

/-- The scale that the kernel builds from the field. -/
theorem scale_word (v : EReal) : Ideal.ofBits .f32 (IntOp.shli .vector (IntOp.addi 127#32 (expoW v)) 23#32) = scaleOf v := by
  by_cases h : pow 1 ≤ v ∧ v < pow 253
  · obtain ⟨f1, f2, e⟩ := expo_field v h.1 h.2
    have w := (words ⟨fieldN v, by omega⟩ f1).1
    unfold expoW scaleOf
    rw [cutW_eq, if_pos h.2, e]
    refine (congrArg (Ideal.ofBits .f32) w).trans ((pow_eq (fieldN v + 1) (by omega) (by omega)).trans ?_)
    refine congrArg (fun k : ℤ => (((2 : ℝ) ^ k : ℝ) : EReal)) ?_
    push_cast; ring
  · rw [expoW_zero v h]
    unfold scaleOf
    rw [expo_zero v h, shift_zero.1]
    exact pow_eq 127 (by omega) (by omega)

/-- The inverse that the kernel builds from the field. -/
theorem inv_word (v : EReal) : Ideal.ofBits .f32 (IntOp.shli .vector (IntOp.subi 127#32 (expoW v)) 23#32) = invOf v := by
  by_cases h : pow 1 ≤ v ∧ v < pow 253
  · obtain ⟨f1, f2, e⟩ := expo_field v h.1 h.2
    have w := (words ⟨fieldN v, by omega⟩ f1).2
    unfold expoW invOf
    rw [cutW_eq, if_pos h.2, e]
    refine (congrArg (Ideal.ofBits .f32) w).trans ((pow_eq (253 - fieldN v) (by omega) (by omega)).trans ?_)
    refine congrArg (fun k : ℤ => (((2 : ℝ) ^ k : ℝ) : EReal)) ?_
    push_cast [Nat.cast_sub (show fieldN v ≤ 253 by omega)]; ring
  · rw [expoW_zero v h]
    unfold invOf
    rw [expo_zero v h, shift_zero.2]
    exact (pow_eq 127 (by omega) (by omega)).trans (by norm_num)

open Classical in
/-- The exponent as the reference writes it. -/
def expoF (v : EReal) : EReal :=
  if (((2 : ℝ) ^ (-126 : ℤ) : ℝ) : EReal) ≤ v ∧ v < (((2 : ℝ) ^ (126 : ℤ) : ℝ) : EReal) then
    Ideal.liftRound Int.floor (Ideal.div (Ideal.log v) (Ideal.log ((2 : ℝ) : EReal))) + 1
  else 0

theorem expoF_eq (v : EReal) : expoF v = ((expo v : ℝ) : EReal) := by
  unfold expoF expo
  by_cases h : (((2 : ℝ) ^ (-126 : ℤ) : ℝ) : EReal) ≤ v ∧ v < (((2 : ℝ) ^ (126 : ℤ) : ℝ) : EReal)
  · rw [if_pos h, if_pos h]
    obtain ⟨r, rfl⟩ : ∃ r : ℝ, (r : EReal) = v := ⟨v.toReal, EReal.coe_toReal (ne_top_of_lt h.2) (ne_bot_of_gt (lt_of_lt_of_le (EReal.bot_lt_coe _) h.1))⟩
    have hr : 0 < r := lt_of_lt_of_le (zpow_pos (by norm_num) _) (EReal.coe_le_coe_iff.mp h.1)
    have hl : Real.log 2 ≠ 0 := (Real.log_pos (by norm_num)).ne'
    rw [EReal.toReal_coe, Ideal.log_coe, Ideal.log_coe, if_neg (not_le.mpr hr), if_neg (by norm_num)]
    unfold Ideal.div
    rw [if_neg (by exact_mod_cast hl), ← EReal.coe_inv, ← EReal.coe_mul]
    show (((⌊Real.log r * (Real.log 2)⁻¹⌋ : ℤ) : ℝ) : EReal) + 1 = _
    rw [← div_eq_mul_inv]
    push_cast
    rfl
  · rw [if_neg h, if_neg h]; simp

theorem scale_exp2 (v : EReal) : Ideal.exp2 (expoF v) = scaleOf v := by
  rw [expoF_eq, Ideal.exp2_coe]
  unfold scaleOf
  exact congrArg _ (Real.rpow_intCast 2 (expo v))

theorem inv_exp2 (v : EReal) : Ideal.exp2 (0 - expoF v) = invOf v := by
  rw [expoF_eq]
  have : (0 : EReal) - ((expo v : ℝ) : EReal) = (((-expo v : ℤ) : ℝ) : EReal) := by
    rw [zero_sub, ← EReal.coe_neg]; push_cast; rfl
  rw [this, Ideal.exp2_coe]
  unfold invOf
  exact congrArg _ (Real.rpow_intCast 2 (-expo v))

/-! The constants that the two programs spell differently. -/

theorem bits_bot : Ideal.ofBits .f32 0xFF800000#32 = ⊥ := by simp [Ideal.ofBits, Ideal.ieee]

theorem bits_zero : Ideal.ofBits .f32 0x00000000#32 = 0 := by simp [Ideal.ofBits, Ideal.ieee]

theorem bits_one : Ideal.ofBits .f32 0x3F800000#32 = 1 := (pow_eq 127 (by omega) (by omega)).trans (by norm_num)

theorem bits_two : Ideal.ofBits .f32 0x40000000#32 = ((2 : ℝ) : EReal) := (pow_eq 128 (by omega) (by omega)).trans (by norm_num)

theorem bits_128 : Ideal.ofBits .f32 0x43000000#32 = ((128 : ℝ) : EReal) := (pow_eq 134 (by omega) (by omega)).trans (by norm_num)

theorem bits_inv128 : Ideal.ofBits .f32 0x3C000000#32 = ((1 / 128 : ℝ) : EReal) := (pow_eq 120 (by omega) (by omega)).trans (by norm_num)

theorem bits_5120 : Ideal.ofBits .f32 0x45A00000#32 = ((5120 : ℝ) : EReal) := by
  simp [Ideal.ofBits, Ideal.ieee, -EReal.coe_mul]; norm_num

/-- A quotient by a nonzero real is the product with its inverse. -/
theorem div_real (a : EReal) (r : ℝ) (h : r ≠ 0) : Ideal.div a (r : EReal) = a * ((1 / r : ℝ) : EReal) := by
  unfold Ideal.div
  rw [if_neg (by exact_mod_cast h), ← EReal.coe_inv, one_div]

/-- The largest of the magnitudes, as the two programs fold it. -/
theorem fold_max (f : Fin 5120 → EReal) : Finset.univ.fold max (Ideal.ofBits .f32 0xFF800000#32) f = Finset.univ.sup f := by
  rw [bits_bot]; rfl

end Cert.Spec
-- ==== Proof.BandValue.lean ====
module

public import proofs.«01_k».proof.Proof.Written
public import proofs.«01_k».proof.Proof.Project
public import proofs.«01_k».proof.Proof.Stores
public import Idealize.ShloMosaic.Lib.Pointwise
public import proofs.«01_k».proof.Proof.Exponent

@[expose] public section

noncomputable section

namespace Cert.KernelIdeal.Run

open Cert.KernelIdeal Cert.KernelIdeal.Gen
open Idealize.ShloMosaic Idealize.ShloMosaic.TcCoe Idealize.ShloMosaic.Tactic

/-! What the kernel's blocks hold over the extended reals, entry by entry. -/

theorem inv_d : Named.named (F := Ideal) κ "inv_d" (φ := .f32) 0x394CCCCD#32 = ((1 / 5120 : ℝ) : EReal) := rfl

/-- The largest magnitude of a row over `448`, on every lane. -/
theorem peak_apply (x : Vec Ideal S32x5120 .bf16) (nw : Vec Ideal S1x5120 .f32) (a : Fin 32) (l : Fin 128) :
    k0_pay8 x nw (ix2 a l) = Spec.peak (fun k => x (ix2 a k)) (fun k => nw (ix2 0 k)) := by
  pointwise [k0_pay8, k0_pay7, k0_pay6, inv_d]
  rw [Spec.fold_max]
  rfl

/-- The normed row. -/
theorem norm_apply (x : Vec Ideal S32x5120 .bf16) (nw : Vec Ideal S1x5120 .f32) (a : Fin 32) (l : Fin 5120) :
    k0_pay18 (k0_pay6 x) (k0_pay7 x) nw (ix2 a l) = Spec.hRow (fun k => x (ix2 a k)) (fun k => nw (ix2 0 k)) l := by
  pointwise [k0_pay18, k0_pay7, k0_pay6, inv_d]
  rfl

theorem invT_word (x : Vec Ideal S32x5120 .bf16) (nw : Vec Ideal S1x5120 .f32) (y : S32x128.Idx) :
    invT x nw y = Ideal.ofBits .f32 (IntOp.shli .vector (IntOp.subi 127#32 (Spec.expoW (k0_pay8 x nw y))) 23#32) := rfl

theorem scaleT_word (x : Vec Ideal S32x5120 .bf16) (nw : Vec Ideal S1x5120 .f32) (y : S32x128.Idx) :
    scaleT x nw y = Ideal.ofBits .f32 (IntOp.shli .vector (IntOp.addi 127#32 (Spec.expoW (k0_pay8 x nw y))) 23#32) := by
  unfold scaleT k0_pay21
  rw [shapeCast_self]
  rfl

/-- The scale of a row of a band. -/
theorem scaleT_apply (x : Vec Ideal S32x5120 .bf16) (nw : Vec Ideal S1x5120 .f32) (a : Fin 32) (l : Fin 128) :
    scaleT x nw (ix2 a l) = Spec.scale (fun k => x (ix2 a k)) (fun k => nw (ix2 0 k)) := by
  rw [scaleT_word, Spec.scale_word, peak_apply]; rfl

theorem clip_apply (v : FVec Ideal S32x128 .f32) (h : FVec Ideal S32x5120 .f32) (a : Fin 32) (j : Fin 5120) :
    k0_pay19 v h (ix2 a j) = min (Ideal.ofBits .f32 0x43E00000#32) (max (Ideal.ofBits .f32 0xC3E00000#32) (h (ix2 a j) * v (ix2 a 0))) := by
  pointwise [k0_pay19]

/-- The code of an entry of a band. -/
theorem codeT_apply (x : Vec Ideal S32x5120 .bf16) (nw : Vec Ideal S1x5120 .f32) (a : Fin 32) (j : Fin 5120) :
    codeT x nw (ix2 a j) = Spec.code (fun k => x (ix2 a k)) (fun k => nw (ix2 0 k)) j := by
  unfold codeT
  rw [clip_apply, norm_apply, invT_word, Spec.inv_word, peak_apply]; rfl

/-- The row of scales is the diagonal of the block of scales. -/
theorem diagRow_apply (S : Fin 128 → Fin 128 → Elt Ideal .f32) (b : Fin 6) (l : Fin 128) : diagRow (F := Ideal) S b l = S l l := by
  have key : ∑ r : Fin 128, Scalar.select (IntOp.cmpi CmpIPredicate.eq (BitVec.ofNat 32 r.val) (BitVec.ofNat 32 l.val)) (S r l : EReal) 0 = S l l := by
    rw [Finset.sum_eq_single l]
    · have : IntOp.cmpi CmpIPredicate.eq (BitVec.ofNat 32 l.val) (BitVec.ofNat 32 l.val) = 1#1 := by simp [IntOp.cmpi]
      rw [this]; rfl
    · intro r _ hr
      have : IntOp.cmpi CmpIPredicate.eq (BitVec.ofNat 32 r.val) (BitVec.ofNat 32 l.val) = 0#1 := by
        have hne : BitVec.ofNat 32 r.val ≠ BitVec.ofNat 32 l.val := fun e => hr (Fin.ext (by
          have := congrArg BitVec.toNat e
          simp only [BitVec.toNat_ofNat] at this
          omega))
        show BitVec.ofBool (BitVec.ofNat 32 r.val == BitVec.ofNat 32 l.val) = 0#1
        rw [beq_eq_false_iff_ne.mpr hne]; rfl
      rw [this]; rfl
    · intro h; exact absurd (Finset.mem_univ _) h
  refine Eq.trans ?_ key
  unfold diagRow
  pointwise [k0_pay1, k0_pay22]

/-- A head before its norm. -/
theorem headY_apply (acc : FVec Ideal S1024x1024 .f32) (hs : FVec Ideal S1024x128 .f32) (X5 : Vec Ideal S1x1024 .f32) (h : Fin 8) (a : Fin 1024) (l : Fin 128) :
    headY acc hs X5 h (ix2 a l) = acc (ix2 a ⟨128 * h.val + l.val, by omega⟩) * hs (ix2 a l) * X5 (ix2 0 ⟨128 * h.val + l.val, by omega⟩) := by
  pointwise [headY]

/-- A head after its norm. -/
theorem headNorm_apply (y : FVec Ideal S1024x128 .f32) (hw : FVec Ideal S1x128 .f32) (a : Fin 1024) (l : Fin 128) :
    headNorm y hw (ix2 a l) = Spec.headRow (fun k => y (ix2 a k)) (fun k => hw (ix2 0 k)) l := by
  pointwise [headNorm]
  rw [Spec.bits_inv128]
  rfl

/-- The products of the codes with a column block. -/
theorem acc_apply (cs : Vec Ideal S1x1024x5120 .fp8e4m3) (w : Vec Ideal S5120x1024 .fp8e4m3) (a : Fin 1024) (l : Fin 1024) :
    k0_pay24 cs w (ix2 a l) = (∑ k, (cs (ix3 0 a k) : EReal) * w (ix2 k l) : EReal) := by
  pointwise [k0_pay24]

theorem rows_apply (hs : Vec Ideal S1x1024x128 .f32) (a : Fin 1024) (l : Fin 128) : k0_pay25 hs (ix2 a l) = hs (ix3 0 a l) := by
  pointwise [k0_pay25]

theorem weight_apply (hw : Vec Ideal S1x128 .f32) (l : Fin 128) : k0_pay23 hw (ix2 0 l) = hw (ix2 0 l) := by
  pointwise [k0_pay23]

end Cert.KernelIdeal.Run
-- ==== Proof.Body.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.VecWindow
public import Idealize.ShloMosaic.Lib.Tactic
public import proofs.«01_k».proof.Proof.Stores
public import proofs.«01_k».proof.Proof.Project

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

/-! The body at a grid point with its values: what it leaves in every buffer, as a relation of what it found. -/

/-- Band `k` of a chunk's contents. -/
abbrev bandX (i : grid0.Coords) (h1 : k0_cond1 i = 1#1) (X2 : S128x5120.Idx → Elt F .bf16) (k : Fin k0_t1_loop.trips) : Vec F S32x5120 .bf16 :=
  View.ld X2 (Rect.unit (s := S128x5120) (k0_off1 k) S32x5120.size (k0_off1_inb i k h1))

/-- The norm weights, loaded whole. -/
abbrev nwX (X3 : S1x5120.Idx → Elt F .f32) : Vec F S1x5120 .f32 := View.ld X3 (Rect.unit (s := S1x5120) ![0, 0] S1x5120.size (by decide))

/-- The column block of the weight, loaded whole. -/
abbrev wX (X4 : S5120x1024.Idx → Elt F .fp8e4m3) : Vec F S5120x1024 .fp8e4m3 := View.ld X4 (Rect.unit (s := S5120x1024) ![0, 0] S5120x1024.size (by decide))

/-- The head weights of a block: row 0 for the queries, row 1 for the keys. -/
abbrev hwX0 (X6 : S2x128.Idx → Elt F .f32) : Vec F S1x128 .f32 := View.ld X6 (Rect.unit (s := S2x128) ![0, 0] S1x128.size (by decide))
abbrev hwX1 (X6 : S2x128.Idx → Elt F .f32) : Vec F S1x128 .f32 := View.ld X6 (Rect.unit (s := S2x128) ![1, 0] S1x128.size (by decide))

/-- What the body leaves at a point, of what it found: `X7 … X11` the output blocks, `s12 s13` the two scratch buffers, primed after. -/
structure Post (i : grid0.Coords) (X2 : S128x5120.Idx → Elt F .bf16) (X3 : S1x5120.Idx → Elt F .f32) (X4 : S5120x1024.Idx → Elt F .fp8e4m3)
    (X5 : S1x1024.Idx → Elt F .f32) (X6 : S2x128.Idx → Elt F .f32) (X7 X8 X9 : S1024x8x128.Idx → Elt F .bf16) (X10 : S128x5120.Idx → Elt F .fp8e4m3)
    (X11 : S6x4096.Idx → Elt F .f32) (s12 : S2x1024x5120.Idx → Elt F .fp8e4m3) (s13 : S2x1024x128.Idx → Elt F .f32)
    (X7' X8' X9' : S1024x8x128.Idx → Elt F .bf16) (X10' : S128x5120.Idx → Elt F .fp8e4m3)
    (X11' : S6x4096.Idx → Elt F .f32) (s12' : S2x1024x5120.Idx → Elt F .fp8e4m3) (s13' : S2x1024x128.Idx → Elt F .f32) : Prop where
  codes : ∀ h1 : k0_cond1 i = 1#1, X10' = fun y => chunkCodes (bandX i h1 X2) (nwX X3) (y 0) (y 1)
  scales : ∀ h1 : k0_cond1 i = 1#1, New11 i (diagRow (chunkScales (bandX i h1 X2) (nwX X3))) X11 X11'
  slotC : ∀ h1 : k0_cond1 i = 1#1, New12 i (chunkCodes (bandX i h1 X2) (nwX X3)) s12 s12'
  slotS : ∀ h1 : k0_cond1 i = 1#1, New13 i (chunkScales (bandX i h1 X2) (nwX X3)) s13 s13'
  keep : ¬ k0_cond1 i = 1#1 → X10' = X10 ∧ X11' = X11 ∧ s12' = s12 ∧ s13' = s13
  q : ∀ h2 : k0_cond2 i = 1#1, X7' = blkOf (normHeads (View.ld s12' (Rect.unit (s := S2x1024x5120) (k0_off10 i) S1x1024x5120.size (k0_off10_inb i h2))) (wX X4)
    (View.ld s13' (Rect.unit (s := S2x1024x128) (k0_off11 i) S1x1024x128.size (k0_off11_inb i h2))) X5 (hwX0 X6))
  k : ∀ h3 : k0_cond3 i = 1#1, X8' = blkOf (normHeads (View.ld s12' (Rect.unit (s := S2x1024x5120) (k0_off12 i) S1x1024x5120.size (k0_off12_inb i h3))) (wX X4)
    (View.ld s13' (Rect.unit (s := S2x1024x128) (k0_off13 i) S1x1024x128.size (k0_off13_inb i h3))) X5 (hwX1 X6))
  v : ∀ h4 : k0_cond4 i = 1#1, X9' = blkOf (plainHeads (View.ld s12' (Rect.unit (s := S2x1024x5120) (k0_off14 i) S1x1024x5120.size (k0_off14_inb i h4))) (wX X4)
    (View.ld s13' (Rect.unit (s := S2x1024x128) (k0_off15 i) S1x1024x128.size (k0_off15_inb i h4))) X5)
  q' : ¬ k0_cond2 i = 1#1 → X7' = X7
  k' : ¬ k0_cond3 i = 1#1 → X8' = X8
  v' : ¬ k0_cond4 i = 1#1 → X9' = X9

theorem read10 (v : View sig .tc .vmem S128x5120 .fp8e4m3) (g : v.ty.Contents (Elt F)) (i : grid0.Coords) (h1 : k0_cond1 i = 1#1)
    (x : Fin k0_t1_loop.trips → Vec F S32x5120 .bf16) (nw : Vec F S1x5120 .f32) (n : ℕ) (hn : n = 4) :
    v.read (Elt F) (v.writes (Elt F) g (pcs10 i h1 x nw n)) = fun y => chunkCodes x nw (y 0) (y 1) := by
  subst hn; exact read_pcs10 v g i h1 x nw

theorem read12 (v : View sig .tc .vmem S2x1024x5120 .fp8e4m3) (g : v.ty.Contents (Elt F)) (i : grid0.Coords) (h1 : k0_cond1 i = 1#1)
    (x : Fin k0_t1_loop.trips → Vec F S32x5120 .bf16) (nw : Vec F S1x5120 .f32) (n : ℕ) (hn : n = 4) :
    New12 i (chunkCodes x nw) (v.read (Elt F) g) (v.read (Elt F) (v.writes (Elt F) g (pcs12 i h1 x nw n))) := by
  subst hn; exact new12 v g i h1 x nw

theorem read13 (c : Dev nD) (i : grid0.Coords) (h1 : k0_cond1 i = 1#1) (m : Memref sig .tc .vmem S2x1024x128 .f32) (f : Buf (Elt F) (m.view.loc (c : Thread nD τ)))
    (x : Fin k0_t1_loop.trips → Vec F S32x5120 .bf16) (nw : Vec F S1x5120 .f32) (n : ℕ) (hn : n = 4) :
    New13 i (chunkScales x nw) (m.view.read (Elt F) f) (m.view.read (Elt F) (buf13 c i h1 m x nw f n)) := by
  subst hn; exact new13 c i h1 m f x nw

theorem read11 (v : View sig .tc .vmem S6x4096 .f32) (f : v.ty.Contents (Elt F)) (c : Dev nD) (i : grid0.Coords) (h1 : k0_cond1 i = 1#1)
    (m : Memref sig .tc .vmem S2x1024x128 .f32) (g : Buf (Elt F) (m.view.loc (c : Thread nD τ)))
    (x : Fin k0_t1_loop.trips → Vec F S32x5120 .bf16) (nw : Vec F S1x5120 .f32) (n : ℕ) (hn : n = 4) :
    New11 i (diagRow (chunkScales x nw)) (v.read (Elt F) f) (v.read (Elt F) ((v.slice (Rect.unit (s := S6x4096) (k0_off9 i) S6x128.size (k0_off9_inb i h1))).write (Elt F) f
      (k0_pay1 (k0_pay22 ((wrSlot i h1 m).view.readAt (Elt F) (Rect.unit (s := S1024x128) (k0_off8 i) S128x128.size (k0_off8_inb i h1)).toLoadRect (buf13 c i h1 m x nw g n))))
      (IVec.on (maskOf i)))) := by
  subst hn; rw [load_slot]; exact new11 v f i h1 _

/-- The body at any coordinates, every buffer whole. -/
theorem kernelRun (c : Dev nD) (i : grid0.Coords) (arg2 : Memref sig .tc .vmem S128x5120 .bf16) (harg2 : arg2.IsWhole) (arg3 : Memref sig .tc .vmem S1x5120 .f32) (harg3 : arg3.IsWhole) (arg4 : Memref sig .tc .vmem S5120x1024 .fp8e4m3) (harg4 : arg4.IsWhole) (arg5 : Memref sig .tc .vmem S1x1024 .f32) (harg5 : arg5.IsWhole) (arg6 : Memref sig .tc .vmem S2x128 .f32) (harg6 : arg6.IsWhole) (arg7 : Memref sig .tc .vmem S1024x8x128 .bf16) (harg7 : arg7.IsWhole) (arg8 : Memref sig .tc .vmem S1024x8x128 .bf16) (harg8 : arg8.IsWhole) (arg9 : Memref sig .tc .vmem S1024x8x128 .bf16) (harg9 : arg9.IsWhole) (arg10 : Memref sig .tc .vmem S128x5120 .fp8e4m3) (harg10 : arg10.IsWhole) (arg11 : Memref sig .tc .vmem S6x4096 .f32) (harg11 : arg11.IsWhole) (arg12 : Memref sig .tc .vmem S2x1024x5120 .fp8e4m3) (harg12 : arg12.IsWhole) (arg13 : Memref sig .tc .vmem S2x1024x128 .f32) (harg13 : arg13.IsWhole)
    X2 X3 X4 X5 X6 X7 X8 X9 X10 X11 (f12 : Buf (Elt F) (arg12.view.loc (c : Thread nD τ))) (f13 : Buf (Elt F) (arg13.view.loc (c : Thread nD τ))) (K : Unit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ (arg12.view.loc (c : Thread nD τ) ↦{fullShare} f12) ∗ (arg13.view.loc (c : Thread nD τ) ↦{fullShare} f13) ∗ ((∃ X7' X8' X9' X10' X11' g12 g13, (owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7' ∗ owns (c : Thread nD τ) arg8 fullShare X8' ∗ owns (c : Thread nD τ) arg9 fullShare X9' ∗ owns (c : Thread nD τ) arg10 fullShare X10' ∗ owns (c : Thread nD τ) arg11 fullShare X11' ∗ (arg12.view.loc (c : Thread nD τ) ↦{fullShare} g12) ∗ (arg13.view.loc (c : Thread nD τ) ↦{fullShare} g13) ∗ ⌜Post i X2 X3 X4 X5 X6 X7 X8 X9 X10 X11 (arg12.view.read (Elt F) f12) (arg13.view.read (Elt F) f13)
        X7' X8' X9' X10' X11' (arg12.view.read (Elt F) g12) (arg13.view.read (Elt F) g13)⌝)) -∗ K ()))
      ⊢ wp frame (wpE (defs₀ (F := F)) Variants.none c none) Set.univ (cc0_qkv_fp8 i arg2 harg2 arg3 harg3 arg4 harg4 arg5 harg5 arg6 harg6 arg7 harg7 arg8 harg8 arg9 harg9 arg10 harg10 arg11 harg11 arg12 harg12 arg13 harg13) K := by
  rw [cc0_qkv_fp8_eq_skeleton]; unfold cc0_qkv_fp8_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, H12, H13, Hk⟩
  subst e2 e3 e4 e5 e6 e7 e8 e9 e10 e11
  by_cases h1 : k0_cond1 i = 1#1 <;> by_cases h2 : k0_cond2 i = 1#1 <;> by_cases h3 : k0_cond3 i = 1#1 <;> by_cases h4 : k0_cond4 i = 1#1
  all_goals
    sl_exec
    sl_step
    iapply Hk
    iexists _, _, _, _, _, _, _
    isplitl [H2]; · iexists _; isplitr; swap; (iexact H2); ipureintro; rfl
    isplitl [H3]; · iexists _; isplitr; swap; (iexact H3); ipureintro; rfl
    isplitl [H4]; · iexists _; isplitr; swap; (iexact H4); ipureintro; rfl
    isplitl [H5]; · iexists _; isplitr; swap; (iexact H5); ipureintro; rfl
    isplitl [H6]; · iexists _; isplitr; swap; (iexact H6); ipureintro; rfl
    isplitl [H7]; · iexists _; isplitr; swap; (iexact H7); ipureintro; rfl
    isplitl [H8]; · iexists _; isplitr; swap; (iexact H8); ipureintro; rfl
    isplitl [H9]; · iexists _; isplitr; swap; (iexact H9); ipureintro; rfl
    isplitl [H10]; · iexists _; isplitr; swap; (iexact H10); ipureintro; rfl
    isplitl [H11]; · iexists _; isplitr; swap; (iexact H11); ipureintro; rfl
    isplitl [H12]; · iexact H12
    isplitl [H13]; · iexact H13
    ipureintro
    refine ⟨?_, ?_, ?_, ?_, ?_, ?_, ?_, ?_, ?_, ?_, ?_⟩
    · first
      | exact fun h => absurd h h1
      | exact fun h => read10 _ _ _ _ _ _ _ trips4
    · first
      | exact fun h => absurd h h1
      | exact fun h => read11 _ _ c _ _ arg13 _ _ _ _ trips4
    · first
      | exact fun h => absurd h h1
      | exact fun h => read12 _ _ _ _ _ _ _ trips4
    · first
      | exact fun h => absurd h h1
      | exact fun h => read13 _ _ _ _ _ _ _ _ trips4
    · first
      | exact fun h => absurd h1 h
      | exact fun h => ⟨rfl, rfl, rfl, rfl⟩
    · first
      | exact fun h => absurd h h2
      | exact fun h => read_pairs arg7.view f7 (normHeads _ _ _ _ _)
    · first
      | exact fun h => absurd h h3
      | exact fun h => read_pairs arg8.view f8 (normHeads _ _ _ _ _)
    · first
      | exact fun h => absurd h h4
      | exact fun h => read_pairs arg9.view f9 (plainHeads _ _ _ _)
    · first
      | exact fun h => absurd h2 h
      | exact fun h => rfl
    · first
      | exact fun h => absurd h3 h
      | exact fun h => rfl
    · first
      | exact fun h => absurd h4 h
      | exact fun h => rfl

end Cert.KernelIdeal.Run
-- ==== Proof.Track.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.VecWindow
public import Idealize.ShloMosaic.Lib.Tactic
public import proofs.«01_k».proof.Proof.Body
public import Idealize.ShloMosaic.Lib.Pipeline.ArrRel

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

/-! What the buffers hold through the grid: the chunks of tokens, their codes and scales, the column blocks, and the blocks of the results. -/

/-- Chunk `j` of the tokens: 128 rows. -/
def chunkX (XA : S24576x5120.Idx → Elt F .bf16) (j : ℕ) : S128x5120.Idx → Elt F .bf16 :=
  fun y => XA (ix2 (Fin.ofNat 24576 (128 * j + (y 0).val)) (y 1))

theorem bandInb : ∀ k : Fin k0_t1_loop.trips, ∀ a, (k0_off1 k) a + S32x5120.size a ≤ S128x5120.size a := by decide +kernel

/-- Band `k` of a chunk. -/
abbrev bandC (X2 : S128x5120.Idx → Elt F .bf16) (k : Fin k0_t1_loop.trips) : Vec F S32x5120 .bf16 :=
  View.ld X2 (Rect.unit (s := S128x5120) (k0_off1 k) S32x5120.size (bandInb k))

/-- The codes of chunk `j`. -/
def codesJ (XA : S24576x5120.Idx → Elt F .bf16) (NA : S1x5120.Idx → Elt F .f32) (j : ℕ) : Fin 128 → Fin 5120 → Elt F .fp8e4m3 :=
  chunkCodes (bandC (chunkX XA j)) (nwX NA)

/-- The scales of chunk `j`. -/
def scalesJ (XA : S24576x5120.Idx → Elt F .bf16) (NA : S1x5120.Idx → Elt F .f32) (j : ℕ) : Fin 128 → Fin 128 → Elt F .f32 :=
  chunkScales (bandC (chunkX XA j)) (nwX NA)

/-- The eight chunks of codes that a column block is multiplied with. -/
def codesI (XA : S24576x5120.Idx → Elt F .bf16) (NA : S1x5120.Idx → Elt F .f32) (i : ℕ) : Vec F S1x1024x5120 .fp8e4m3 :=
  fun y => codesJ XA NA (8 * i + (y 1).val / 128) (Fin.ofNat 128 (y 1).val) (y 2)

/-- And their scales. -/
def scalesI (XA : S24576x5120.Idx → Elt F .bf16) (NA : S1x5120.Idx → Elt F .f32) (i : ℕ) : Vec F S1x1024x128 .f32 :=
  fun y => scalesJ XA NA (8 * i + (y 1).val / 128) (Fin.ofNat 128 (y 1).val) (y 2)

/-- Column block `n` of the weight. -/
def wB (WA : S5120x10240.Idx → Elt F .fp8e4m3) (n : ℕ) : S5120x1024.Idx → Elt F .fp8e4m3 :=
  fun y => WA (ix2 (y 0) (Fin.ofNat 10240 (1024 * n + (y 1).val)))

/-- Column block `n` of the weight's scales. -/
def wsB (SA : S1x10240.Idx → Elt F .f32) (n : ℕ) : S1x1024.Idx → Elt F .f32 :=
  fun y => SA (ix2 (y 0) (Fin.ofNat 10240 (1024 * n + (y 1).val)))

section Blocks
variable (XA : S24576x5120.Idx → Elt F .bf16) (NA : S1x5120.Idx → Elt F .f32) (WA : S5120x10240.Idx → Elt F .fp8e4m3) (SA : S1x10240.Idx → Elt F .f32) (HA : S2x128.Idx → Elt F .f32)

/-- The query block of token block `i` and column block `n`. -/
def QB (i n : ℕ) : S1024x8x128.Idx → Elt F .bf16 :=
  blkOf (normHeads (codesI XA NA i) (wX (wB WA n)) (scalesI XA NA i) (wsB SA n) (hwX0 HA))

/-- The key block of token block `i`. -/
def KB (i : ℕ) : S1024x8x128.Idx → Elt F .bf16 :=
  blkOf (normHeads (codesI XA NA i) (wX (wB WA 8)) (scalesI XA NA i) (wsB SA 8) (hwX1 HA))

/-- The value block of token block `i`. -/
def VB (i : ℕ) : S1024x8x128.Idx → Elt F .bf16 :=
  blkOf (plainHeads (codesI XA NA i) (wX (wB WA 9)) (scalesI XA NA i) (wsB SA 9))

end Blocks

/-! ## The scratch buffers -/

/-- Before point `t`: every chunk quantised at an earlier point and not yet overwritten lies in its rows of its slot. -/
def Kept {n : ℕ} {α : Type} (t : ℕ) (C : ℕ → Fin 128 → Fin n → α) (s : Fin 2 → Fin 1024 → Fin n → α) : Prop :=
  ∀ (i' n' : ℕ) (p : Fin 2) (r : Fin 1024) (r' : Fin 128) (j : Fin n), i' < 24 → n' < 8 → 10 * i' + n' < t → t ≤ 10 * (i' + 2) + n' →
    p.val = i' % 2 → r.val = 128 * n' + r'.val → s p r j = C (8 * i' + n') r' j

theorem Kept.zero {n : ℕ} {α : Type} (C : ℕ → Fin 128 → Fin n → α) (s : Fin 2 → Fin 1024 → Fin n → α) : Kept 0 C s :=
  fun i' n' p r r' j _ _ h => absurd h (Nat.not_lt_zero _)

theorem Kept.step {n : ℕ} {α : Type} {C : ℕ → Fin 128 → Fin n → α} {s s' : Fin 2 → Fin 1024 → Fin n → α} {i k : ℕ} (hk : k < 10)
    (h : Kept (10 * i + k) C s)
    (hit : i < 24 → k < 8 → ∀ (p : Fin 2) (r : Fin 1024) (j : Fin n) (r' : Fin 128), p.val = i % 2 → r.val = 128 * k + r'.val → s' p r j = C (8 * i + k) r' j)
    (miss : i < 24 → k < 8 → ∀ (p : Fin 2) (r : Fin 1024) (j : Fin n), (p.val = i % 2 → r.val < 128 * k ∨ 128 * k + 128 ≤ r.val) → s' p r j = s p r j)
    (keep : ¬ (i < 24 ∧ k < 8) → s' = s) : Kept (10 * i + k + 1) C s' := by
  intro i' n' p r r' j hi hn h1 h2 hp hr
  have r'l := r'.isLt
  by_cases hc : i < 24 ∧ k < 8
  · by_cases he : i' = i ∧ n' = k
    · obtain ⟨rfl, rfl⟩ := he
      exact hit hc.1 hc.2 p r j r' hp hr
    · rw [miss hc.1 hc.2 p r j (by omega)]
      exact h i' n' p r r' j hi hn (by omega) (by omega) hp hr
  · rw [keep hc]
    exact h i' n' p r r' j hi hn (by omega) (by omega) hp hr

/-! ## The grid's points -/

theorem coords0 : ∀ t : Fin cfg0.N, ((grid0.coords t) 0).val = t.val / 10 ∧ ((grid0.coords t) 1).val = t.val % 10 := by decide +kernel

theorem cond1_iff : ∀ i : grid0.Coords, k0_cond1 i = 1#1 ↔ ((i 0).val < 24 ∧ (i 1).val < 8) := by decide +kernel
theorem cond2_iff : ∀ i : grid0.Coords, k0_cond2 i = 1#1 ↔ (0 < (i 0).val ∧ (i 1).val < 8) := by decide +kernel
theorem cond3_iff : ∀ i : grid0.Coords, k0_cond3 i = 1#1 ↔ (0 < (i 0).val ∧ (i 1).val = 8) := by decide +kernel
theorem cond4_iff : ∀ i : grid0.Coords, k0_cond4 i = 1#1 ↔ (0 < (i 0).val ∧ (i 1).val = 9) := by decide +kernel

/-- The chunk at a point. -/
def ck (t : ℕ) : ℕ := min (8 * (t / 10) + min (t % 10) 7) 191

theorem index0 : ∀ t : Fin cfg0.N, (cfg0.win 0).index t = ![ck t.val, 0] := by decide +kernel
theorem index2 : ∀ t : Fin cfg0.N, (cfg0.win 2).index t = ![0, if t.val / 10 = 0 then 0 else t.val % 10] := by decide +kernel
theorem index3 : ∀ t : Fin cfg0.N, (cfg0.win 3).index t = ![0, if t.val / 10 = 0 then 0 else t.val % 10] := by decide +kernel

variable (m : (ℓ : Loc nD τ sig) → Buf (Elt F) ℓ) (ρ : Dev nD → PrngReg)

abbrev XA (c : Dev nD) : S24576x5120.Idx → Elt F .bf16 := V m c (Pipeline.arrRef spec0 0)
abbrev NA (c : Dev nD) : S1x5120.Idx → Elt F .f32 := V m c (Pipeline.arrRef spec0 1)
abbrev WA (c : Dev nD) : S5120x10240.Idx → Elt F .fp8e4m3 := V m c (Pipeline.arrRef spec0 2)
abbrev SA (c : Dev nD) : S1x10240.Idx → Elt F .f32 := V m c (Pipeline.arrRef spec0 3)
abbrev HA (c : Dev nD) : S2x128.Idx → Elt F .f32 := V m c (Pipeline.arrRef spec0 4)

theorem iblk0 (c : Dev nD) (t : Fin cfg0.N) : (iblk m c 0 t : S128x5120.Idx → Elt F .bf16) = chunkX (XA m c) (ck t.val) := by
  funext y
  show XA m c (((cfg0.win 0).blk t).view.emb y) = _
  unfold chunkX
  congr 1
  have h := index0 t
  have h0 : (cfg0.win 0).index t (0 : Fin 2) = ck t.val := congrFun h (0 : Fin 2)
  have h1 : (cfg0.win 0).index t (1 : Fin 2) = 0 := congrFun h (1 : Fin 2)
  have hy : (y 0).val < 128 := (y 0).isLt
  have hc : ck t.val ≤ 191 := Nat.min_le_right _ _
  refine funext (Fin.forall_fin_two.mpr ⟨Fin.ext ?_, Fin.ext ?_⟩)
  · show (cfg0.win 0).index t (0 : Fin 2) * 128 + 1 * (y 0).val = (128 * ck t.val + (y 0).val) % 24576
    rw [h0]; omega
  · show (cfg0.win 0).index t (1 : Fin 2) * 5120 + 1 * (y 1).val = (y 1).val
    rw [h1]; omega

theorem iblk1 (c : Dev nD) (t : Fin cfg0.N) : (iblk m c 1 t : S1x5120.Idx → Elt F .f32) = NA m c := by
  funext y
  show NA m c (((cfg0.win 1).blk t).view.emb y) = _
  congr 1
  refine funext (Fin.forall_fin_two.mpr ⟨Fin.ext ?_, Fin.ext ?_⟩)
  · show 0 * 1 + 1 * (y 0).val = (y 0).val; omega
  · show 0 * 5120 + 1 * (y 1).val = (y 1).val; omega

theorem iblk2 (c : Dev nD) (t : Fin cfg0.N) : (iblk m c 2 t : S5120x1024.Idx → Elt F .fp8e4m3) = wB (WA m c) (if t.val / 10 = 0 then 0 else t.val % 10) := by
  funext y
  show WA m c (((cfg0.win 2).blk t).view.emb y) = _
  unfold wB
  congr 1
  have h := index2 t
  have h0 : (cfg0.win 2).index t (0 : Fin 2) = 0 := congrFun h (0 : Fin 2)
  have h1 : (cfg0.win 2).index t (1 : Fin 2) = if t.val / 10 = 0 then 0 else t.val % 10 := congrFun h (1 : Fin 2)
  have hy : (y 1).val < 1024 := (y 1).isLt
  have hn : (if t.val / 10 = 0 then 0 else t.val % 10) < 10 := by split <;> omega
  refine funext (Fin.forall_fin_two.mpr ⟨Fin.ext ?_, Fin.ext ?_⟩)
  · show (cfg0.win 2).index t (0 : Fin 2) * 5120 + 1 * (y 0).val = (y 0).val
    rw [h0]; omega
  · show (cfg0.win 2).index t (1 : Fin 2) * 1024 + 1 * (y 1).val = (1024 * (if t.val / 10 = 0 then 0 else t.val % 10) + (y 1).val) % 10240
    rw [h1]; omega

theorem iblk3 (c : Dev nD) (t : Fin cfg0.N) : (iblk m c 3 t : S1x1024.Idx → Elt F .f32) = wsB (SA m c) (if t.val / 10 = 0 then 0 else t.val % 10) := by
  funext y
  show SA m c (((cfg0.win 3).blk t).view.emb y) = _
  unfold wsB
  congr 1
  have h := index3 t
  have h0 : (cfg0.win 3).index t (0 : Fin 2) = 0 := congrFun h (0 : Fin 2)
  have h1 : (cfg0.win 3).index t (1 : Fin 2) = if t.val / 10 = 0 then 0 else t.val % 10 := congrFun h (1 : Fin 2)
  have hy : (y 1).val < 1024 := (y 1).isLt
  have hn : (if t.val / 10 = 0 then 0 else t.val % 10) < 10 := by split <;> omega
  refine funext (Fin.forall_fin_two.mpr ⟨Fin.ext ?_, Fin.ext ?_⟩)
  · show (cfg0.win 3).index t (0 : Fin 2) * 1 + 1 * (y 0).val = (y 0).val
    rw [h0]; omega
  · show (cfg0.win 3).index t (1 : Fin 2) * 1024 + 1 * (y 1).val = (1024 * (if t.val / 10 = 0 then 0 else t.val % 10) + (y 1).val) % 10240
    rw [h1]; omega

theorem iblk4 (c : Dev nD) (t : Fin cfg0.N) : (iblk m c 4 t : S2x128.Idx → Elt F .f32) = HA m c := by
  funext y
  show HA m c (((cfg0.win 4).blk t).view.emb y) = _
  congr 1
  refine funext (Fin.forall_fin_two.mpr ⟨Fin.ext ?_, Fin.ext ?_⟩)
  · show 0 * 2 + 1 * (y 0).val = (y 0).val; omega
  · show 0 * 128 + 1 * (y 1).val = (y 1).val; omega

/-- The slot that a projection reads, loaded whole, of a buffer that keeps its chunks. -/
theorem ld_slotC {XA : S24576x5120.Idx → Elt F .bf16} {NA : S1x5120.Idx → Elt F .f32} {s12 : S2x1024x5120.Idx → Elt F .fp8e4m3} {i k : ℕ} (hi : 0 < i) (hi' : i ≤ 24) (hk : k < 10)
    (h : Kept (10 * i + k + 1) (codesJ XA NA) fun p r j => s12 (ix3 p r j)) (off : Fin 3 → ℕ) (ho : off = ![1 - i % 2, 0, 0])
    (inb : ∀ a, off a + S1x1024x5120.size a ≤ S2x1024x5120.size a) :
    View.ld s12 (Rect.unit (s := S2x1024x5120) off S1x1024x5120.size inb) = codesI XA NA (i - 1) := by
  subst ho
  funext y
  have hy0 : (y 0).val < 1 := (y 0).isLt
  have hy1 : (y 1).val < 1024 := (y 1).isLt
  have e : (Rect.unit (s := S2x1024x5120) ![1 - i % 2, 0, 0] S1x1024x5120.size inb).emb y = (ix3 (⟨1 - i % 2, by omega⟩ : Fin 2) (y 1) (y 2) : S2x1024x5120.Idx) := by
    refine Shape.idx3_ext ?_ ?_ ?_
    · show 1 - i % 2 + 1 * (y 0).val = 1 - i % 2; omega
    · show 0 + 1 * (y 1).val = (y 1).val; omega
    · show 0 + 1 * (y 2).val = (y 2).val; omega
  have := h (i - 1) ((y 1).val / 128) ⟨1 - i % 2, by omega⟩ (y 1) (Fin.ofNat 128 (y 1).val) (y 2) (by omega) (by omega) (by omega) (by omega)
    (show 1 - i % 2 = _ by omega) (show (y 1).val = 128 * ((y 1).val / 128) + (y 1).val % 128 by omega)
  exact (congrArg s12 e).trans this

theorem ld_slotS {XA : S24576x5120.Idx → Elt F .bf16} {NA : S1x5120.Idx → Elt F .f32} {s13 : S2x1024x128.Idx → Elt F .f32} {i k : ℕ} (hi : 0 < i) (hi' : i ≤ 24) (hk : k < 10)
    (h : Kept (10 * i + k + 1) (scalesJ XA NA) fun p r j => s13 (ix3 p r j)) (off : Fin 3 → ℕ) (ho : off = ![1 - i % 2, 0, 0])
    (inb : ∀ a, off a + S1x1024x128.size a ≤ S2x1024x128.size a) :
    View.ld s13 (Rect.unit (s := S2x1024x128) off S1x1024x128.size inb) = scalesI XA NA (i - 1) := by
  subst ho
  funext y
  have hy0 : (y 0).val < 1 := (y 0).isLt
  have hy1 : (y 1).val < 1024 := (y 1).isLt
  have e : (Rect.unit (s := S2x1024x128) ![1 - i % 2, 0, 0] S1x1024x128.size inb).emb y = (ix3 (⟨1 - i % 2, by omega⟩ : Fin 2) (y 1) (y 2) : S2x1024x128.Idx) := by
    refine Shape.idx3_ext ?_ ?_ ?_
    · show 1 - i % 2 + 1 * (y 0).val = 1 - i % 2; omega
    · show 0 + 1 * (y 1).val = (y 1).val; omega
    · show 0 + 1 * (y 2).val = (y 2).val; omega
  have := h (i - 1) ((y 1).val / 128) ⟨1 - i % 2, by omega⟩ (y 1) (Fin.ofNat 128 (y 1).val) (y 2) (by omega) (by omega) (by omega) (by omega)
    (show 1 - i % 2 = _ by omega) (show (y 1).val = 128 * ((y 1).val / 128) + (y 1).val % 128 by omega)
  exact (congrArg s13 e).trans this

end Cert.KernelIdeal.Run
-- ==== Proof.Run.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.VecWindow
public import Idealize.ShloMosaic.Lib.Tactic
public import proofs.«01_k».proof.Proof.Track

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

/-! The run: the body at every point against what the buffers hold there, and the arrays at the end. -/

variable (m : (ℓ : Loc nD τ sig) → Buf (Elt F) ℓ) (ρ : Dev nD → PrngReg)

/-- What the body leaves in a window's buffer (`X`) at point `t`, of what it found there (`Y`). -/
def afterR (c : Dev nD) (w : Fin cfg0.W) (t : Fin cfg0.N) : (Y X : (cfg0.win w).block.Idx → Elt F (cfg0.win w).elt) → Prop :=
  match w with
  | 0 | 1 | 2 | 3 | 4 => fun Y X => X = Y
  | 5 => fun Y X => (0 < t.val / 10 ∧ t.val % 10 < 8 → X = QB (XA m c) (NA m c) (WA m c) (SA m c) (HA m c) (t.val / 10 - 1) (t.val % 10))
      ∧ (¬ (0 < t.val / 10 ∧ t.val % 10 < 8) → X = Y)
  | 6 => fun Y X => (0 < t.val / 10 ∧ t.val % 10 = 8 → X = KB (XA m c) (NA m c) (WA m c) (SA m c) (HA m c) (t.val / 10 - 1))
      ∧ (¬ (0 < t.val / 10 ∧ t.val % 10 = 8) → X = Y)
  | 7 => fun Y X => (0 < t.val / 10 ∧ t.val % 10 = 9 → X = VB (XA m c) (NA m c) (WA m c) (SA m c) (t.val / 10 - 1))
      ∧ (¬ (0 < t.val / 10 ∧ t.val % 10 = 9) → X = Y)
  | 8 => fun Y X => (t.val / 10 < 24 ∧ t.val % 10 < 8 → X = fun y : S128x5120.Idx => codesJ (XA m c) (NA m c) (8 * (t.val / 10) + t.val % 10) (y 0) (y 1))
      ∧ (¬ (t.val / 10 < 24 ∧ t.val % 10 < 8) → X = Y)
  | 9 => fun Y X => (t.val / 10 < 24 ∧ t.val % 10 < 8 → New11 (grid0.coords t) (diagRow (scalesJ (XA m c) (NA m c) (8 * (t.val / 10) + t.val % 10))) Y X)
      ∧ (¬ (t.val / 10 < 24 ∧ t.val % 10 < 8) → X = Y)

/-- The scratch buffers before point `t`. -/
def PhiS (c : Dev nD) (t : ℕ) : sProp 𝕄 :=
  iprop(((∃ f : Buf (Elt F) ((c : Thread nD τ).loc cc0_scratch0), (((c : Thread nD τ).loc cc0_scratch0) ↦{fullShare} f)
      ∗ ⌜Kept t (codesJ (XA m c) (NA m c)) fun p r j => (Memref.whole cc0_scratch0).view.read (Elt F) f (ix3 p r j)⌝)
    ∗ (∃ f : Buf (Elt F) ((c : Thread nD τ).loc cc0_scratch1), (((c : Thread nD τ).loc cc0_scratch1) ↦{fullShare} f)
      ∗ ⌜Kept t (scalesJ (XA m c) (NA m c)) fun p r j => (Memref.whole cc0_scratch1).view.read (Elt F) f (ix3 p r j)⌝)) ∗ (∃ r, prngReg c r))

/-- The proof data of the launch. -/
def rdat (c : Dev nD) : Pipeline.RDat τ (Elt F) Unit ℕ (UR sig nD τ) ℕ cfg0 c where
  A w := V m c (Pipeline.arrRef spec0 w)
  after := afterR m c
  Φ t := PhiS m c t.val
  q _ := fullShare
  owed _ := 0

theorem A_eq (c : Dev nD) (w : Fin cfg0.W) : (rdat m c).A w = V m c (Pipeline.arrRef spec0 w) := by dsimp only [rdat]

theorem ΦA_eq (c : Dev nD) : (Pipeline.ΦA spec0 c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) ∗ (∃ r, prngReg c r)) := by
  unfold Pipeline.ΦA; rw [scopedRest0_eq]

theorem defs₀_row (t : Fin cfg0.N) : defs₀ (F := F) .tc cfg0.body (cfg0.bodyArgs t (cfg0.slots t)) = bodyAt0 t := by
  unfold defs₀; rw [Defs.onTc_tc]

/-- What the body finds in an input's buffer is the input's block. -/
theorem find0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h; rfl
theorem find1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h; rfl
theorem find2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h; rfl
theorem find3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h; rfl
theorem find4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h; rfl

section Step
variable {c : Dev nD} {t : Fin cfg0.N} {Y7 Y8 Y9 X7 X8 X9 : S1024x8x128.Idx → Elt F .bf16} {Y10 X10 : S128x5120.Idx → Elt F .fp8e4m3}
  {Y11 X11 : S6x4096.Idx → Elt F .f32} {s12 s12' : S2x1024x5120.Idx → Elt F .fp8e4m3} {s13 s13' : S2x1024x128.Idx → Elt F .f32}

/-- The chunk of a point that quantises. -/
theorem chunk_here (c : Dev nD) (h : t.val / 10 < 24 ∧ t.val % 10 < 8) :
    (iblk m c 0 t : S128x5120.Idx → Elt F .bf16) = chunkX (XA m c) (8 * (t.val / 10) + t.val % 10) := by
  rw [iblk0, show ck t.val = 8 * (t.val / 10) + t.val % 10 by unfold ck; omega]

theorem keptC (hp : Post (grid0.coords t) (iblk m c 0 t) (iblk m c 1 t) (iblk m c 2 t) (iblk m c 3 t) (iblk m c 4 t) Y7 Y8 Y9 Y10 Y11 s12 s13 X7 X8 X9 X10 X11 s12' s13')
    (hk : Kept t.val (codesJ (XA m c) (NA m c)) fun p r j => s12 (ix3 p r j)) :
    Kept (t.val + 1) (codesJ (XA m c) (NA m c)) fun p r j => s12' (ix3 p r j) := by
  obtain ⟨c0, c1⟩ := coords0 t
  have e : t.val = 10 * (t.val / 10) + t.val % 10 := by omega
  rw [e] at hk ⊢
  have h1 : t.val / 10 < 24 → t.val % 10 < 8 → k0_cond1 (grid0.coords t) = 1#1 := fun a b => (cond1_iff _).mpr ⟨c0 ▸ a, c1 ▸ b⟩
  refine Kept.step (by omega) hk (fun a b p r j r' hs hr => ?_) (fun a b p r j hm => ?_) fun hn => ?_
  · rw [(hp.slotC (h1 a b)).hit p r j r' (c0.symm ▸ hs) (c1.symm ▸ hr), chunk_here m c ⟨a, b⟩, iblk1]; rfl
  · exact (hp.slotC (h1 a b)).miss p r j (by rw [c0, c1]; exact hm)
  · rw [(hp.keep fun h => hn (by have := (cond1_iff _).mp h; rwa [c0, c1] at this)).2.2.1]

theorem keptS (hp : Post (grid0.coords t) (iblk m c 0 t) (iblk m c 1 t) (iblk m c 2 t) (iblk m c 3 t) (iblk m c 4 t) Y7 Y8 Y9 Y10 Y11 s12 s13 X7 X8 X9 X10 X11 s12' s13')
    (hk : Kept t.val (scalesJ (XA m c) (NA m c)) fun p r j => s13 (ix3 p r j)) :
    Kept (t.val + 1) (scalesJ (XA m c) (NA m c)) fun p r j => s13' (ix3 p r j) := by
  obtain ⟨c0, c1⟩ := coords0 t
  have e : t.val = 10 * (t.val / 10) + t.val % 10 := by omega
  rw [e] at hk ⊢
  have h1 : t.val / 10 < 24 → t.val % 10 < 8 → k0_cond1 (grid0.coords t) = 1#1 := fun a b => (cond1_iff _).mpr ⟨c0 ▸ a, c1 ▸ b⟩
  refine Kept.step (by omega) hk (fun a b p r j r' hs hr => ?_) (fun a b p r j hm => ?_) fun hn => ?_
  · rw [(hp.slotS (h1 a b)).hit p r j r' (c0.symm ▸ hs) (c1.symm ▸ hr), chunk_here m c ⟨a, b⟩, iblk1]; rfl
  · exact (hp.slotS (h1 a b)).miss p r j (by rw [c0, c1]; exact hm)
  · rw [(hp.keep fun h => hn (by have := (cond1_iff _).mp h; rwa [c0, c1] at this)).2.2.2]

theorem afterQ (hp : Post (grid0.coords t) (iblk m c 0 t) (iblk m c 1 t) (iblk m c 2 t) (iblk m c 3 t) (iblk m c 4 t) Y7 Y8 Y9 Y10 Y11 s12 s13 X7 X8 X9 X10 X11 s12' s13')
    (hC : Kept (t.val + 1) (codesJ (XA m c) (NA m c)) fun p r j => s12' (ix3 p r j)) (hS : Kept (t.val + 1) (scalesJ (XA m c) (NA m c)) fun p r j => s13' (ix3 p r j)) :
    afterR m c 5 t Y7 X7 := by
  obtain ⟨c0, c1⟩ := coords0 t
  have e : t.val = 10 * (t.val / 10) + t.val % 10 := by omega
  have tl : t.val < 250 := t.isLt
  rw [e] at hC hS
  refine ⟨fun h => ?_, fun h => hp.q' fun h' => h (by have := (cond2_iff _).mp h'; rwa [c0, c1] at this)⟩
  rw [hp.q ((cond2_iff _).mpr (by rw [c0, c1]; exact h)), ld_slotC h.1 (by omega) (by omega) hC _ ((k0_off10_eq _).trans (by rw [c0])),
    ld_slotS h.1 (by omega) (by omega) hS _ ((k0_off11_eq _).trans (by rw [c0])), iblk2, iblk3, iblk4, if_neg (by omega)]
  rfl

theorem afterK (hp : Post (grid0.coords t) (iblk m c 0 t) (iblk m c 1 t) (iblk m c 2 t) (iblk m c 3 t) (iblk m c 4 t) Y7 Y8 Y9 Y10 Y11 s12 s13 X7 X8 X9 X10 X11 s12' s13')
    (hC : Kept (t.val + 1) (codesJ (XA m c) (NA m c)) fun p r j => s12' (ix3 p r j)) (hS : Kept (t.val + 1) (scalesJ (XA m c) (NA m c)) fun p r j => s13' (ix3 p r j)) :
    afterR m c 6 t Y8 X8 := by
  obtain ⟨c0, c1⟩ := coords0 t
  have e : t.val = 10 * (t.val / 10) + t.val % 10 := by omega
  have tl : t.val < 250 := t.isLt
  rw [e] at hC hS
  refine ⟨fun h => ?_, fun h => hp.k' fun h' => h (by have := (cond3_iff _).mp h'; rwa [c0, c1] at this)⟩
  rw [hp.k ((cond3_iff _).mpr (by rw [c0, c1]; exact h)), ld_slotC h.1 (by omega) (by omega) hC _ ((k0_off12_eq _).trans (by rw [c0])),
    ld_slotS h.1 (by omega) (by omega) hS _ ((k0_off13_eq _).trans (by rw [c0])), iblk2, iblk3, iblk4, if_neg (by omega), h.2]
  rfl

theorem afterV (hp : Post (grid0.coords t) (iblk m c 0 t) (iblk m c 1 t) (iblk m c 2 t) (iblk m c 3 t) (iblk m c 4 t) Y7 Y8 Y9 Y10 Y11 s12 s13 X7 X8 X9 X10 X11 s12' s13')
    (hC : Kept (t.val + 1) (codesJ (XA m c) (NA m c)) fun p r j => s12' (ix3 p r j)) (hS : Kept (t.val + 1) (scalesJ (XA m c) (NA m c)) fun p r j => s13' (ix3 p r j)) :
    afterR m c 7 t Y9 X9 := by
  obtain ⟨c0, c1⟩ := coords0 t
  have e : t.val = 10 * (t.val / 10) + t.val % 10 := by omega
  have tl : t.val < 250 := t.isLt
  rw [e] at hC hS
  refine ⟨fun h => ?_, fun h => hp.v' fun h' => h (by have := (cond4_iff _).mp h'; rwa [c0, c1] at this)⟩
  rw [hp.v ((cond4_iff _).mpr (by rw [c0, c1]; exact h)), ld_slotC h.1 (by omega) (by omega) hC _ ((k0_off14_eq _).trans (by rw [c0])),
    ld_slotS h.1 (by omega) (by omega) hS _ ((k0_off15_eq _).trans (by rw [c0])), iblk2, iblk3, if_neg (by omega), h.2]
  rfl

theorem afterC (hp : Post (grid0.coords t) (iblk m c 0 t) (iblk m c 1 t) (iblk m c 2 t) (iblk m c 3 t) (iblk m c 4 t) Y7 Y8 Y9 Y10 Y11 s12 s13 X7 X8 X9 X10 X11 s12' s13') :
    afterR m c 8 t Y10 X10 := by
  obtain ⟨c0, c1⟩ := coords0 t
  refine ⟨fun h => ?_, fun h => (hp.keep fun h' => h (by have := (cond1_iff _).mp h'; rwa [c0, c1] at this)).1⟩
  rw [hp.codes ((cond1_iff _).mpr (by rw [c0, c1]; exact h)), chunk_here m c h, iblk1]
  rfl

theorem afterS (hp : Post (grid0.coords t) (iblk m c 0 t) (iblk m c 1 t) (iblk m c 2 t) (iblk m c 3 t) (iblk m c 4 t) Y7 Y8 Y9 Y10 Y11 s12 s13 X7 X8 X9 X10 X11 s12' s13') :
    afterR m c 9 t Y11 X11 := by
  obtain ⟨c0, c1⟩ := coords0 t
  refine ⟨fun h => ?_, fun h => (hp.keep fun h' => h (by have := (cond1_iff _).mp h'; rwa [c0, c1] at this)).2.1⟩
  have := hp.scales ((cond1_iff _).mpr (by rw [c0, c1]; exact h))
  rw [chunk_here m c h, iblk1] at this
  exact this

end Step

theorem body_obligation (c : Dev nD) : (rdat (F := F) m c).BodyObligation (defs₀ (F := F)) Variants.none () Set.univ := fun t Y hY => by
  have e0 := find0 m c t _ (hY 0)
  have e1 := find1 m c t _ (hY 1)
  have e2 := find2 m c t _ (hY 2)
  have e3 := find3 m c t _ (hY 3)
  have e4 := find4 m c t _ (hY 4)
  rw [bigSep_W0, bigSep_W0, defs₀_row, e0, e1, e2, e3, e4,
    show (rdat (F := F) m c).Φ t.succ = PhiS m c (t.val + 1) from rfl, show (rdat (F := F) m c).Φ t.castSucc = PhiS m c t.val from rfl,
    show (rdat (F := F) m c).owesAt () t.succ = (rdat (F := F) m c).owesAt () t.castSucc from rfl]
  unfold bodyAt0 PhiS
  iintro ⟨⟨⟨⟨%g12, HA, %k12⟩, ⟨%g13, HB, %k13⟩⟩, Hg⟩, HO, H0, H1, H2, H3, H4, H5, H6, H7, H8, H9⟩
  iapply (kernelRun c (grid0.coords t) _ _ _ _ _ _ _ _ _ _ _ _ _ _ _ _ _ _ _ _ (Memref.whole cc0_scratch0) _ (Memref.whole cc0_scratch1) _
    (iblk m c 0 t) (iblk m c 1 t) (iblk m c 2 t) (iblk m c 3 t) (iblk m c 4 t) (Y 5) (Y 6) (Y 7) (Y 8) (Y 9) g12 g13 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  iintro ⟨%X7, %X8, %X9, %X10, %X11, %n12, %n13, H0, H1, H2, H3, H4, H5, H6, H7, H8, H9, HA, HB, %hp⟩
  have nC := keptC m hp k12
  have nS := keptS m hp k13
  isplitl [HA HB Hg]
  · isplitl [HA HB]
    · isplitl [HA]
      · iexists n12; isplitl [HA]; · iexact HA
        ipureintro; exact nC
      · iexists n13; isplitl [HB]; · iexact HB
        ipureintro; exact nS
    · iexact Hg
  isplitl [HO]; · iexact HO
  isplitl [H0]; · iexists _; isplitr; swap; (iexact H0); ipureintro; exact (rfl : _ = _)
  isplitl [H1]; · iexists _; isplitr; swap; (iexact H1); ipureintro; exact (rfl : _ = _)
  isplitl [H2]; · iexists _; isplitr; swap; (iexact H2); ipureintro; exact (rfl : _ = _)
  isplitl [H3]; · iexists _; isplitr; swap; (iexact H3); ipureintro; exact (rfl : _ = _)
  isplitl [H4]; · iexists _; isplitr; swap; (iexact H4); ipureintro; exact (rfl : _ = _)
  isplitl [H5]; · iexists _; isplitr; swap; (iexact H5); ipureintro; exact afterQ m hp nC nS
  isplitl [H6]; · iexists _; isplitr; swap; (iexact H6); ipureintro; exact afterK m hp nC nS
  isplitl [H7]; · iexists _; isplitr; swap; (iexact H7); ipureintro; exact afterV m hp nC nS
  isplitl [H8]; · iexists _; isplitr; swap; (iexact H8); ipureintro; exact afterC m hp
  iexists _; isplitr; swap; (iexact H9); ipureintro; exact afterS m hp

theorem start (c : Dev nD) : (Pipeline.ΦA spec0 c : sProp 𝕄) ⊢ (rdat (F := F) m c).Φ 0 := by
  rw [ΦA_eq, show (rdat (F := F) m c).Φ 0 = PhiS m c 0 from rfl]
  unfold PhiS
  iintro ⟨⟨⟨%g12, HA⟩, ⟨%g13, HB⟩⟩, Hg⟩
  isplitl [HA HB]
  · isplitl [HA]
    · iexists g12; isplitl [HA]; · iexact HA
      ipureintro; exact Kept.zero _ _
    · iexists g13; isplitl [HB]; · iexact HB
      ipureintro; exact Kept.zero _ _
  · iexact Hg

theorem finish (c : Dev nD) : (rdat (F := F) m c).Φ (Fin.last cfg0.N) ⊢ (Pipeline.ΦA spec0 c : sProp 𝕄) := by
  rw [ΦA_eq, show (rdat (F := F) m c).Φ (Fin.last cfg0.N) = PhiS m c cfg0.N from rfl]
  unfold PhiS
  iintro ⟨⟨⟨%g12, HA, -⟩, ⟨%g13, HB, -⟩⟩, Hg⟩
  isplitl [HA HB]
  · isplitl [HA]
    · iexists g12; iexact HA
    · iexists g13; iexact HB
  · iexact Hg

set_option backward.isDefEq.respectTransparency.types false in
/-- Every weakly fair execution from zero counters terminates, the arrays at what the write-backs of the points left. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m)
    (hin := start m) (hout := finish m)

end Cert.KernelIdeal.Run
-- ==== Proof.Arrays.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.VecWindow
public import Idealize.ShloMosaic.Lib.Tactic
public import proofs.«01_k».proof.Proof.Run

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

/-! The arrays at the end of the run, by index. -/

variable (m : (ℓ : Loc nD τ sig) → Buf (Elt F) ℓ) (ρ : Dev nD → PrngReg)

theorem flushQ : ∀ t : Fin cfg0.N, (cfg0.win 5).flush t = true → 0 < t.val / 10 ∧ (t.val % 10 < 7 ∨ t.val % 10 = 9) := by decide +kernel
theorem flushK : ∀ t : Fin cfg0.N, (cfg0.win 6).flush t = true → 0 < t.val / 10 ∧ t.val % 10 = 9 := by decide +kernel
theorem flushV : ∀ t : Fin cfg0.N, (cfg0.win 7).flush t = true → 0 < t.val / 10 ∧ t.val % 10 = 9 := by decide +kernel
theorem flushC : ∀ t : Fin cfg0.N, (cfg0.win 8).flush t = true → (t.val / 10 < 23 ∧ (t.val % 10 < 7 ∨ t.val % 10 = 9)) ∨ (t.val / 10 = 23 ∧ t.val % 10 < 7) ∨ t.val = 249 := by decide +kernel
theorem flushS : ∀ t : Fin cfg0.N, (cfg0.win 9).flush t = true → t.val = 249 := by decide +kernel

/-- An output held since the previous point: what the body finds is what it left there. -/
theorem held (c : Dev nD) (w : Fin cfg0.W) (t : Fin cfg0.N) (hf : (cfg0.win w).fetch t = false) (ht : t.val ≠ 0)
    (h : ¬ (cfg0.win w).flush ⟨t.val - 1, Nat.lt_of_le_of_lt (Nat.sub_le _ _) t.isLt⟩ = true) (Y) (hY : (rdat m c).Finds w t Y) :
    (rdat m c).Leaves w ⟨t.val - 1, Nat.lt_of_le_of_lt (Nat.sub_le _ _) t.isLt⟩ Y :=
  (((rdat m c).finds_of_pos hf ht Y).mp hY).resolve_left h

theorem leavesQ (c : Dev nD) : ∀ (n : ℕ) (t : Fin cfg0.N), t.val = n → 0 < t.val / 10 → ∀ X, (rdat m c).Leaves 5 t X →
    X = QB (XA m c) (NA m c) (WA m c) (SA m c) (HA m c) (t.val / 10 - 1) (min (t.val % 10) 7) := by
  intro n
  induction n with
  | zero => intro t ht h; omega
  | succ n ih =>
    intro t ht h X ⟨Y, hY, hX⟩
    by_cases hc : t.val % 10 < 8
    · rw [show min (t.val % 10) 7 = t.val % 10 by omega]
      exact hX.1 ⟨h, hc⟩
    · have e : X = Y := hX.2 fun h' => hc h'.2
      subst e
      have hl := held m c 5 t rfl (by omega) (fun hf => by have := (flushQ _ hf).2; simp only at this; omega) _ hY
      have := ih ⟨t.val - 1, _⟩ (by simp only; omega) (by simp only; omega) X hl
      rw [this]
      simp only
      rw [show (t.val - 1) / 10 = t.val / 10 by omega, show min ((t.val - 1) % 10) 7 = min (t.val % 10) 7 by omega]

theorem leavesK (c : Dev nD) (t : Fin cfg0.N) (h : 0 < t.val / 10) (h9 : t.val % 10 = 9) (X) (hl : (rdat m c).Leaves 6 t X) :
    X = KB (XA m c) (NA m c) (WA m c) (SA m c) (HA m c) (t.val / 10 - 1) := by
  obtain ⟨Y, hY, hX⟩ := hl
  have e : X = Y := hX.2 fun h' => by omega
  subst e
  obtain ⟨Z, -, hZ⟩ := held m c 6 t rfl (by omega) (fun hf => by have := (flushK _ hf).2; simp only at this; omega) _ hY
  have := hZ.1 ⟨by simp only; omega, by simp only; omega⟩
  rw [this]
  simp only
  rw [show (t.val - 1) / 10 = t.val / 10 by omega]

theorem leavesV (c : Dev nD) (t : Fin cfg0.N) (h : 0 < t.val / 10) (h9 : t.val % 10 = 9) (X) (hl : (rdat m c).Leaves 7 t X) :
    X = VB (XA m c) (NA m c) (WA m c) (SA m c) (t.val / 10 - 1) := by
  obtain ⟨Y, hY, hX⟩ := hl
  exact hX.1 ⟨h, h9⟩

theorem leavesC (c : Dev nD) : ∀ (n : ℕ) (t : Fin cfg0.N), t.val = n → ∀ X, (rdat m c).Leaves 8 t X →
    X = fun y : S128x5120.Idx => codesJ (XA m c) (NA m c) (ck t.val) (y 0) (y 1) := by
  intro n
  induction n with
  | zero =>
    intro t ht X ⟨Y, hY, hX⟩
    have := hX.1 ⟨by omega, by omega⟩
    rw [this, show ck t.val = 8 * (t.val / 10) + t.val % 10 by unfold ck; omega]
  | succ n ih =>
    intro t ht X ⟨Y, hY, hX⟩
    have tl : t.val < 250 := t.isLt
    by_cases hc : t.val / 10 < 24 ∧ t.val % 10 < 8
    · rw [hX.1 hc, show ck t.val = 8 * (t.val / 10) + t.val % 10 by unfold ck; omega]
    · have e : X = Y := hX.2 hc
      subst e
      have hl := held m c 8 t rfl (by omega) (fun hf => by have := flushC _ hf; simp only at this; omega) _ hY
      have := ih ⟨t.val - 1, _⟩ (by simp only; omega) X hl
      rw [this]
      simp only
      rw [show ck (t.val - 1) = ck t.val by unfold ck; omega]

theorem leavesS (c : Dev nD) : ∀ (n : ℕ) (t : Fin cfg0.N), t.val = n → ∀ X : S6x4096.Idx → Elt F .f32, (rdat m c).Leaves 9 t X →
    ∀ (b : Fin 6) (j : Fin 4096) (l : Fin 128) (q : ℕ), q < 192 → 10 * (q / 8) + q % 8 ≤ t.val → b.val = q / 32 → j.val = 128 * (q % 32) + l.val →
      X (ix2 b j) = diagRow (scalesJ (XA m c) (NA m c) q) b l := by
  intro n
  induction n with
  | zero =>
    intro t ht X ⟨Y, hY, hX⟩ b j l q hq hqt hb hj
    obtain ⟨c0, c1⟩ := coords0 t
    have e : q = 8 * (t.val / 10) + t.val % 10 := by omega
    have h11 := hX.1 ⟨by omega, by omega⟩
    rw [h11.hit b j l (by rw [c0, c1, ← e]; exact hb) (by rw [c0, c1, ← e]; exact hj), ← e]
  | succ n ih =>
    intro t ht X ⟨Y, hY, hX⟩ b j l q hq hqt hb hj
    obtain ⟨c0, c1⟩ := coords0 t
    have tl : t.val < 250 := t.isLt
    have ll := l.isLt
    have hl := held m c 9 t rfl (by omega) (fun hf => by have := flushS _ hf; simp only at this; omega) _ hY
    by_cases hc : t.val / 10 < 24 ∧ t.val % 10 < 8
    · have h11 := hX.1 hc
      by_cases e : q = 8 * (t.val / 10) + t.val % 10
      · rw [h11.hit b j l (by rw [c0, c1, ← e]; exact hb) (by rw [c0, c1, ← e]; exact hj), ← e]
      · rw [h11.miss b j (by rw [c0, c1]; omega)]
        exact ih ⟨t.val - 1, _⟩ (by simp only; omega) Y hl b j l q hq (by simp only; omega) hb hj
    · have e : X = Y := hX.2 hc
      subst e
      exact ih ⟨t.val - 1, _⟩ (by simp only; omega) X hl b j l q hq (by simp only; omega) hb hj

/-! ## The arrays -/

def outQ (c : Dev nD) : S24576x64x128.Idx → Elt F .bf16 := fun y =>
  QB (XA m c) (NA m c) (WA m c) (SA m c) (HA m c) ((y 0).val / 1024) ((y 1).val / 8) (ix3 (Fin.ofNat 1024 (y 0).val) (Fin.ofNat 8 (y 1).val) (y 2))
def outK (c : Dev nD) : S24576x8x128.Idx → Elt F .bf16 := fun y =>
  KB (XA m c) (NA m c) (WA m c) (SA m c) (HA m c) ((y 0).val / 1024) (ix3 (Fin.ofNat 1024 (y 0).val) (y 1) (y 2))
def outV (c : Dev nD) : S24576x8x128.Idx → Elt F .bf16 := fun y =>
  VB (XA m c) (NA m c) (WA m c) (SA m c) ((y 0).val / 1024) (ix3 (Fin.ofNat 1024 (y 0).val) (y 1) (y 2))
def outC (c : Dev nD) : S24576x5120.Idx → Elt F .fp8e4m3 := fun y =>
  codesJ (XA m c) (NA m c) ((y 0).val / 128) (Fin.ofNat 128 (y 0).val) (y 1)
def outS (c : Dev nD) : S6x4096.Idx → Elt F .f32 := fun y =>
  diagRow (scalesJ (XA m c) (NA m c) (32 * (y 0).val + (y 1).val / 128)) (y 0) (Fin.ofNat 128 (y 1).val)

theorem index5 : ∀ t : Fin cfg0.N, (cfg0.win 5).flush t = true → (cfg0.win 5).index t = ![t.val / 10 - 1, min (t.val % 10) 7, 0] := by decide +kernel
theorem index6 : ∀ t : Fin cfg0.N, (cfg0.win 6).flush t = true → (cfg0.win 6).index t = ![t.val / 10 - 1, 0, 0] := by decide +kernel
theorem index7 : ∀ t : Fin cfg0.N, (cfg0.win 7).flush t = true → (cfg0.win 7).index t = ![t.val / 10 - 1, 0, 0] := by decide +kernel
theorem index8 : ∀ t : Fin cfg0.N, (cfg0.win 8).flush t = true → (cfg0.win 8).index t = ![ck t.val, 0] := by decide +kernel

section Final
variable {c : Dev nD} (dat : Pipeline.Dat τ (Elt F) Unit ℕ (UR sig nD τ) ℕ cfg0 c)

theorem arrQ (h : ∀ u : Fin cfg0.N, (cfg0.win 5).flush u = true → (rdat m c).Leaves 5 u (dat.after 5 u)) : dat.arrAt 5 cfg0.N = outQ m c := by
  refine dat.arrAt_eq_of_covers 5 _ (by decide +kernel) fun t hf y => ?_
  have hi := index5 t hf
  have hq := flushQ t hf
  have i0 : (cfg0.win 5).index t (0 : Fin 3) = t.val / 10 - 1 := congrFun hi (0 : Fin 3)
  have i1 : (cfg0.win 5).index t (1 : Fin 3) = min (t.val % 10) 7 := congrFun hi (1 : Fin 3)
  have i2 : (cfg0.win 5).index t (2 : Fin 3) = 0 := congrFun hi (2 : Fin 3)
  have y0 : (y (0 : Fin 3)).val < 1024 := (y (0 : Fin 3)).isLt
  have y1 : (y (1 : Fin 3)).val < 8 := (y (1 : Fin 3)).isLt
  have e0 : ((((cfg0.win 5).blk t).view.emb y) (0 : Fin 3)).val = (t.val / 10 - 1) * 1024 + (y (0 : Fin 3)).val := by
    show (cfg0.win 5).index t (0 : Fin 3) * 1024 + 1 * (y (0 : Fin 3)).val = _; rw [i0]; omega
  have e1 : ((((cfg0.win 5).blk t).view.emb y) (1 : Fin 3)).val = (min (t.val % 10) 7) * 8 + (y (1 : Fin 3)).val := by
    show (cfg0.win 5).index t (1 : Fin 3) * 8 + 1 * (y (1 : Fin 3)).val = _; rw [i1]; omega
  have e2 : ((((cfg0.win 5).blk t).view.emb y) (2 : Fin 3)).val = (y (2 : Fin 3)).val := by
    show (cfg0.win 5).index t (2 : Fin 3) * 128 + 1 * (y (2 : Fin 3)).val = _; rw [i2]; omega
  show dat.after 5 t y = _
  rw [leavesQ m c t.val t rfl hq.1 _ (h t hf)]
  unfold outQ
  rw [e0, e1, show ((t.val / 10 - 1) * 1024 + (y (0 : Fin 3)).val) / 1024 = t.val / 10 - 1 by omega,
    show (min (t.val % 10) 7 * 8 + (y (1 : Fin 3)).val) / 8 = min (t.val % 10) 7 by omega]
  refine congrArg _ (Shape.idx3_ext ?_ ?_ ?_)
  · show (y (0 : Fin 3)).val = ((t.val / 10 - 1) * 1024 + (y (0 : Fin 3)).val) % 1024; omega
  · show (y (1 : Fin 3)).val = (min (t.val % 10) 7 * 8 + (y (1 : Fin 3)).val) % 8; omega
  · exact e2.symm

theorem arrK (h : ∀ u : Fin cfg0.N, (cfg0.win 6).flush u = true → (rdat m c).Leaves 6 u (dat.after 6 u)) : dat.arrAt 6 cfg0.N = outK m c := by
  refine dat.arrAt_eq_of_covers 6 _ (by decide +kernel) fun t hf y => ?_
  have hi := index6 t hf
  have hq := flushK t hf
  have i0 : (cfg0.win 6).index t (0 : Fin 3) = t.val / 10 - 1 := congrFun hi (0 : Fin 3)
  have i1 : (cfg0.win 6).index t (1 : Fin 3) = 0 := congrFun hi (1 : Fin 3)
  have i2 : (cfg0.win 6).index t (2 : Fin 3) = 0 := congrFun hi (2 : Fin 3)
  have y0 : (y (0 : Fin 3)).val < 1024 := (y (0 : Fin 3)).isLt
  have e0 : ((((cfg0.win 6).blk t).view.emb y) (0 : Fin 3)).val = (t.val / 10 - 1) * 1024 + (y (0 : Fin 3)).val := by
    show (cfg0.win 6).index t (0 : Fin 3) * 1024 + 1 * (y (0 : Fin 3)).val = _; rw [i0]; omega
  have e1 : ((((cfg0.win 6).blk t).view.emb y) (1 : Fin 3)).val = (y (1 : Fin 3)).val := by
    show (cfg0.win 6).index t (1 : Fin 3) * 8 + 1 * (y (1 : Fin 3)).val = _; rw [i1]; omega
  have e2 : ((((cfg0.win 6).blk t).view.emb y) (2 : Fin 3)).val = (y (2 : Fin 3)).val := by
    show (cfg0.win 6).index t (2 : Fin 3) * 128 + 1 * (y (2 : Fin 3)).val = _; rw [i2]; omega
  show dat.after 6 t y = _
  rw [leavesK m c t hq.1 hq.2 _ (h t hf)]
  unfold outK
  rw [e0, show ((t.val / 10 - 1) * 1024 + (y (0 : Fin 3)).val) / 1024 = t.val / 10 - 1 by omega]
  refine congrArg _ (Shape.idx3_ext ?_ ?_ ?_)
  · show (y (0 : Fin 3)).val = ((t.val / 10 - 1) * 1024 + (y (0 : Fin 3)).val) % 1024; omega
  · exact e1.symm
  · exact e2.symm

theorem arrV (h : ∀ u : Fin cfg0.N, (cfg0.win 7).flush u = true → (rdat m c).Leaves 7 u (dat.after 7 u)) : dat.arrAt 7 cfg0.N = outV m c := by
  refine dat.arrAt_eq_of_covers 7 _ (by decide +kernel) fun t hf y => ?_
  have hi := index7 t hf
  have hq := flushV t hf
  have i0 : (cfg0.win 7).index t (0 : Fin 3) = t.val / 10 - 1 := congrFun hi (0 : Fin 3)
  have i1 : (cfg0.win 7).index t (1 : Fin 3) = 0 := congrFun hi (1 : Fin 3)
  have i2 : (cfg0.win 7).index t (2 : Fin 3) = 0 := congrFun hi (2 : Fin 3)
  have y0 : (y (0 : Fin 3)).val < 1024 := (y (0 : Fin 3)).isLt
  have e0 : ((((cfg0.win 7).blk t).view.emb y) (0 : Fin 3)).val = (t.val / 10 - 1) * 1024 + (y (0 : Fin 3)).val := by
    show (cfg0.win 7).index t (0 : Fin 3) * 1024 + 1 * (y (0 : Fin 3)).val = _; rw [i0]; omega
  have e1 : ((((cfg0.win 7).blk t).view.emb y) (1 : Fin 3)).val = (y (1 : Fin 3)).val := by
    show (cfg0.win 7).index t (1 : Fin 3) * 8 + 1 * (y (1 : Fin 3)).val = _; rw [i1]; omega
  have e2 : ((((cfg0.win 7).blk t).view.emb y) (2 : Fin 3)).val = (y (2 : Fin 3)).val := by
    show (cfg0.win 7).index t (2 : Fin 3) * 128 + 1 * (y (2 : Fin 3)).val = _; rw [i2]; omega
  show dat.after 7 t y = _
  rw [leavesV m c t hq.1 hq.2 _ (h t hf)]
  unfold outV
  rw [e0, show ((t.val / 10 - 1) * 1024 + (y (0 : Fin 3)).val) / 1024 = t.val / 10 - 1 by omega]
  refine congrArg _ (Shape.idx3_ext ?_ ?_ ?_)
  · show (y (0 : Fin 3)).val = ((t.val / 10 - 1) * 1024 + (y (0 : Fin 3)).val) % 1024; omega
  · exact e1.symm
  · exact e2.symm

theorem arrC (h : ∀ u : Fin cfg0.N, (cfg0.win 8).flush u = true → (rdat m c).Leaves 8 u (dat.after 8 u)) : dat.arrAt 8 cfg0.N = outC m c := by
  refine dat.arrAt_eq_of_covers 8 _ (by decide +kernel) fun t hf y => ?_
  have hi := index8 t hf
  have i0 : (cfg0.win 8).index t (0 : Fin 2) = ck t.val := congrFun hi (0 : Fin 2)
  have i1 : (cfg0.win 8).index t (1 : Fin 2) = 0 := congrFun hi (1 : Fin 2)
  have y0 : (y (0 : Fin 2)).val < 128 := (y (0 : Fin 2)).isLt
  have e0 : ((((cfg0.win 8).blk t).view.emb y) (0 : Fin 2)).val = ck t.val * 128 + (y (0 : Fin 2)).val := by
    show (cfg0.win 8).index t (0 : Fin 2) * 128 + 1 * (y (0 : Fin 2)).val = _; rw [i0]; omega
  have e1 : ((((cfg0.win 8).blk t).view.emb y) (1 : Fin 2)).val = (y (1 : Fin 2)).val := by
    show (cfg0.win 8).index t (1 : Fin 2) * 5120 + 1 * (y (1 : Fin 2)).val = _; rw [i1]; omega
  show dat.after 8 t y = _
  rw [leavesC m c t.val t rfl _ (h t hf)]
  unfold outC
  rw [e0, show (ck t.val * 128 + (y (0 : Fin 2)).val) / 128 = ck t.val by omega]
  refine congrArg₂ (codesJ (XA m c) (NA m c) (ck t.val)) (Fin.ext ?_) (Fin.ext ?_)
  · show (y (0 : Fin 2)).val = (ck t.val * 128 + (y (0 : Fin 2)).val) % 128; omega
  · exact e1.symm

theorem arrS (h : ∀ u : Fin cfg0.N, (cfg0.win 9).flush u = true → (rdat m c).Leaves 9 u (dat.after 9 u)) : dat.arrAt 9 cfg0.N = outS m c := by
  refine dat.arrAt_eq_of_after_last 9 ⟨249, by decide⟩ (by decide +kernel) _ fun j => ?_
  have hl := h ⟨249, by decide⟩ (by decide +kernel)
  have j0 : (j (0 : Fin 2)).val < 6 := (j (0 : Fin 2)).isLt
  have j1 : (j (1 : Fin 2)).val < 4096 := (j (1 : Fin 2)).isLt
  have := leavesS m c 249 ⟨249, by decide⟩ rfl _ hl ⟨(j (0 : Fin 2)).val, j0⟩ ⟨(j (1 : Fin 2)).val, j1⟩ (Fin.ofNat 128 (j (1 : Fin 2)).val)
    (32 * (j (0 : Fin 2)).val + (j (1 : Fin 2)).val / 128) (by omega) (by simp only; omega) (by simp only; omega)
    (show (j (1 : Fin 2)).val = _ + (j (1 : Fin 2)).val % 128 by omega)
  refine Eq.trans ?_ this
  show dat.after 9 ⟨249, _⟩ _ = dat.after 9 ⟨249, _⟩ _
  refine congrArg _ ?_
  refine funext (Fin.forall_fin_two.mpr ⟨Fin.ext rfl, Fin.ext rfl⟩)

end Final

/-- Every run ends with the five results at these contents, the arguments as they were, and the counters at zero. -/
theorem run_values : θ_run defs (onTc (τ := τ) (main (F := F))) (s₀ m ρ) (fun r => (∀ c : Dev nD,
      (r.2.mem ((c.tc : Thread nD τ).loc main_v6_0) = outQ m c
      ∧ r.2.mem ((c.tc : Thread nD τ).loc main_v6_1) = outK m c
      ∧ r.2.mem ((c.tc : Thread nD τ).loc main_v6_2) = outV m c
      ∧ r.2.mem ((c.tc : Thread nD τ).loc main_v6_3) = outC m c
      ∧ r.2.mem ((c.tc : Thread nD τ).loc main_v6_4) = outS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => by
    refine ⟨fun c => ⟨?_, ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩
    obtain ⟨after, hl, ha⟩ := Pipeline.RDat.FramePost.exists_exact h.1 c
    exact ⟨(ha 5).trans (arrQ m _ (hl 5)), (ha 6).trans (arrK m _ (hl 6)), (ha 7).trans (arrV m _ (hl 7)),
      (ha 8).trans (arrC m _ (hl 8)), (ha 9).trans (arrS m _ (hl 9))⟩) (run_main m ρ)

end Cert.KernelIdeal.Run
-- ==== Proof.KernelValue.lean ====
module

public import proofs.«01_k».proof.Proof.BandValue
public import proofs.«01_k».proof.Proof.Arrays
public import Idealize.ShloMosaic.Lib.Pipeline.ValueKit.Tiles

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

/-! The kernel's five arrays over the extended reals, entry by entry, from the arrays that its region finds. -/

section Entry
variable (XA : S24576x5120.Idx → Elt Ideal .bf16) (NA : S1x5120.Idx → Elt Ideal .f32) (WA : S5120x10240.Idx → Elt Ideal .fp8e4m3)
  (SA : S1x10240.Idx → Elt Ideal .f32) (HA : S2x128.Idx → Elt Ideal .f32)

/-- The tokens, the weights and the scales as functions of coordinates. -/
abbrev xF : Fin 24576 → Fin 5120 → EReal := fun t k => XA (ix2 t k)
abbrev nF : Fin 5120 → EReal := fun k => NA (ix2 0 k)
abbrev wF : Fin 5120 → Fin 10240 → EReal := fun k c => WA (ix2 k c)
abbrev sF : Fin 10240 → EReal := fun c => SA (ix2 0 c)
abbrev gF (r : Fin 2) : Fin 128 → EReal := fun l => HA (ix2 r l)

theorem nwX_apply (j : Fin 5120) : nwX NA (ix2 0 j) = NA (ix2 0 j) := by
  unfold nwX
  rw [View.ld_unit_apply_of _ _ _ _ _ (ix2 0 j)]
  exact Fin.forall_fin_two.mpr ⟨rfl, by show j.val = 0 + j.val; omega⟩

theorem bandC_apply (j : ℕ) (r : Fin 128) (k : Fin 5120) (t : Fin 24576) (h : t.val = 128 * j + r.val) :
    bandC (chunkX XA j) (bandIx r) (ix2 ⟨r.val % 32, by omega⟩ k) = XA (ix2 t k) := by
  unfold bandC
  rw [View.ld_unit_apply_of _ _ _ _ _ (ix2 r k)]
  · refine congrArg XA ?_
    have : (Fin.ofNat 24576 (128 * j + r.val)) = t := Fin.ext (by show (128 * j + r.val) % 24576 = t.val; omega)
    exact congrArg (fun q => ix2 q k) this
  · have o := k0_off1_eq (bandIx r)
    have o0 := congrFun o (0 : Fin 2)
    have o1 := congrFun o (1 : Fin 2)
    refine Fin.forall_fin_two.mpr ⟨?_, ?_⟩
    · show r.val = k0_off1 (bandIx r) 0 + r.val % 32
      rw [o0]; show r.val = 32 * (r.val / 32) + r.val % 32; omega
    · show k.val = k0_off1 (bandIx r) 1 + k.val
      rw [o1]; show k.val = 0 + k.val; omega

theorem codesJ_apply (j : ℕ) (r : Fin 128) (k : Fin 5120) (t : Fin 24576) (h : t.val = 128 * j + r.val) :
    codesJ XA NA j r k = Spec.code (xF XA t) (nF NA) k := by
  unfold codesJ chunkCodes
  rw [codeT_apply]
  refine congrArg₂ (fun a b => Spec.code a b k) (funext fun q => bandC_apply XA j r q t h) (funext fun q => nwX_apply NA q)

theorem scalesJ_apply (j : ℕ) (r l : Fin 128) (t : Fin 24576) (h : t.val = 128 * j + r.val) :
    scalesJ XA NA j r l = Spec.scale (xF XA t) (nF NA) := by
  unfold scalesJ chunkScales
  rw [scaleT_apply]
  refine congrArg₂ (fun a b => Spec.scale a b) (funext fun q => bandC_apply XA j r q t h) (funext fun q => nwX_apply NA q)

theorem codesI_apply (i : ℕ) (a : Fin 1024) (k : Fin 5120) (t : Fin 24576) (h : t.val = 1024 * i + a.val) :
    codesI XA NA i (ix3 0 a k) = Spec.code (xF XA t) (nF NA) k :=
  codesJ_apply XA NA _ _ k t (by show t.val = 128 * (8 * i + a.val / 128) + a.val % 128; omega)

theorem scalesI_apply (i : ℕ) (a : Fin 1024) (l : Fin 128) (t : Fin 24576) (h : t.val = 1024 * i + a.val) :
    scalesI XA NA i (ix3 0 a l) = Spec.scale (xF XA t) (nF NA) :=
  scalesJ_apply XA NA _ _ l t (by show t.val = 128 * (8 * i + a.val / 128) + a.val % 128; omega)

theorem wX_apply (X4 : S5120x1024.Idx → Elt Ideal .fp8e4m3) (k : Fin 5120) (l : Fin 1024) : wX X4 (ix2 k l) = X4 (ix2 k l) := by
  unfold wX
  rw [View.ld_unit_apply_of _ _ _ _ _ (ix2 k l)]
  exact Fin.forall_fin_two.mpr ⟨by show k.val = 0 + k.val; omega, by show l.val = 0 + l.val; omega⟩

theorem wB_apply (n : ℕ) (k : Fin 5120) (l : Fin 1024) (c : Fin 10240) (h : c.val = 1024 * n + l.val) : wB WA n (ix2 k l) = WA (ix2 k c) := by
  refine congrArg WA (congrArg (fun q => ix2 k q) (Fin.ext ?_))
  show (1024 * n + l.val) % 10240 = c.val; omega

theorem wsB_apply (n : ℕ) (l : Fin 1024) (c : Fin 10240) (h : c.val = 1024 * n + l.val) : wsB SA n (ix2 0 l) = SA (ix2 0 c) := by
  refine congrArg SA (congrArg (fun q => ix2 (0 : Fin 1) q) (Fin.ext ?_))
  show (1024 * n + l.val) % 10240 = c.val; omega

/-- One entry of a head of column block `n` before its norm. -/
theorem head_apply (i n : ℕ) (h : Fin 8) (a : Fin 1024) (l : Fin 128) (t : Fin 24576) (c : Fin 10240) (ht : t.val = 1024 * i + a.val)
    (hc : c.val = 1024 * n + (128 * h.val + l.val)) :
    headY (k0_pay24 (codesI XA NA i) (wX (wB WA n))) (k0_pay25 (scalesI XA NA i)) (wsB SA n) h (ix2 a l)
      = Spec.projAt (xF XA) (nF NA) (wF WA) (sF SA) t c := by
  rw [headY_apply, acc_apply, rows_apply, scalesI_apply XA NA i a l t ht, wsB_apply SA n _ c hc]
  unfold Spec.projAt Spec.proj
  refine congrArg (fun q : EReal => q * Spec.scale (xF XA t) (nF NA) * SA (ix2 0 c)) (Finset.sum_congr rfl fun k _ => ?_)
  rw [codesI_apply XA NA i a k t ht, wX_apply, wB_apply WA n k _ c hc]

theorem hwX0_apply (l : Fin 128) : k0_pay23 (hwX0 HA) (ix2 0 l) = HA (ix2 0 l) := by
  rw [weight_apply]
  unfold hwX0
  rw [View.ld_unit_apply_of _ _ _ _ _ (ix2 0 l)]
  exact Fin.forall_fin_two.mpr ⟨rfl, by show l.val = 0 + l.val; omega⟩

theorem hwX1_apply (l : Fin 128) : k0_pay23 (hwX1 HA) (ix2 0 l) = HA (ix2 1 l) := by
  rw [weight_apply]
  unfold hwX1
  rw [View.ld_unit_apply_of _ _ _ _ _ (ix2 1 l)]
  exact Fin.forall_fin_two.mpr ⟨rfl, by show l.val = 0 + l.val; omega⟩

theorem QB_apply (i n : ℕ) (h : Fin 8) (a : Fin 1024) (l : Fin 128) (t : Fin 24576) (h' : Fin 64) (ht : t.val = 1024 * i + a.val) (hh : h'.val = 8 * n + h.val) :
    QB XA NA WA SA HA i n (ix3 a h l) = Spec.queries (xF XA) (nF NA) (wF WA) (sF SA) (gF HA 0) t h' l := by
  show headNorm (headY (k0_pay24 (codesI XA NA i) (wX (wB WA n))) (k0_pay25 (scalesI XA NA i)) (wsB SA n) h) (k0_pay23 (hwX0 HA)) (ix2 a l) = _
  rw [headNorm_apply]
  unfold Spec.queries
  refine congrArg₂ (fun a b => Spec.headRow a b l) (funext fun k => ?_) (funext fun k => hwX0_apply HA k)
  exact head_apply XA NA WA SA i n h a k t _ ht (by show h'.val * 128 + k.val = 1024 * n + (128 * h.val + k.val); omega)

theorem KB_apply (i : ℕ) (h : Fin 8) (a : Fin 1024) (l : Fin 128) (t : Fin 24576) (ht : t.val = 1024 * i + a.val) :
    KB XA NA WA SA HA i (ix3 a h l) = Spec.keys (xF XA) (nF NA) (wF WA) (sF SA) (gF HA 1) t h l := by
  show headNorm (headY (k0_pay24 (codesI XA NA i) (wX (wB WA 8))) (k0_pay25 (scalesI XA NA i)) (wsB SA 8) h) (k0_pay23 (hwX1 HA)) (ix2 a l) = _
  rw [headNorm_apply]
  unfold Spec.keys
  refine congrArg₂ (fun a b => Spec.headRow a b l) (funext fun k => ?_) (funext fun k => hwX1_apply HA k)
  exact head_apply XA NA WA SA i 8 h a k t _ ht (by show 8192 + (h.val * 128 + k.val) = 1024 * 8 + (128 * h.val + k.val); omega)

theorem VB_apply (i : ℕ) (h : Fin 8) (a : Fin 1024) (l : Fin 128) (t : Fin 24576) (ht : t.val = 1024 * i + a.val) :
    VB XA NA WA SA i (ix3 a h l) = Spec.vals (xF XA) (nF NA) (wF WA) (sF SA) t h l :=
  head_apply XA NA WA SA i 9 h a l t _ ht (by show 9216 + (h.val * 128 + l.val) = 1024 * 9 + (128 * h.val + l.val); omega)

end Entry

variable (m : (ℓ : Loc nD τ sig) → Buf (Elt Ideal) ℓ) (c : Dev nD)

/-- The queries that the kernel leaves. -/
theorem outQ_apply (t : Fin 24576) (h : Fin 64) (l : Fin 128) :
    outQ m c (ix3 t h l) = Spec.queries (xF (XA m c)) (nF (NA m c)) (wF (WA m c)) (sF (SA m c)) (gF (HA m c) 0) t h l :=
  QB_apply _ _ _ _ _ (t.val / 1024) (h.val / 8) _ _ l t h (by show t.val = 1024 * (t.val / 1024) + t.val % 1024; omega) (by show h.val = 8 * (h.val / 8) + h.val % 8; omega)

/-- The keys that the kernel leaves. -/
theorem outK_apply (t : Fin 24576) (h : Fin 8) (l : Fin 128) :
    outK m c (ix3 t h l) = Spec.keys (xF (XA m c)) (nF (NA m c)) (wF (WA m c)) (sF (SA m c)) (gF (HA m c) 1) t h l :=
  KB_apply _ _ _ _ _ (t.val / 1024) _ _ l t (by show t.val = 1024 * (t.val / 1024) + t.val % 1024; omega)

/-- The values that the kernel leaves. -/
theorem outV_apply (t : Fin 24576) (h : Fin 8) (l : Fin 128) :
    outV m c (ix3 t h l) = Spec.vals (xF (XA m c)) (nF (NA m c)) (wF (WA m c)) (sF (SA m c)) t h l :=
  VB_apply _ _ _ _ (t.val / 1024) _ _ l t (by show t.val = 1024 * (t.val / 1024) + t.val % 1024; omega)

/-- The codes that the kernel leaves. -/
theorem outC_apply (t : Fin 24576) (k : Fin 5120) : outC m c (ix2 t k) = Spec.code (xF (XA m c) t) (nF (NA m c)) k :=
  codesJ_apply _ _ (t.val / 128) _ k t (by show t.val = 128 * (t.val / 128) + t.val % 128; omega)

/-- The scales that the kernel leaves. -/
theorem outS_apply (b : Fin 6) (l : Fin 4096) :
    outS m c (ix2 b l) = Spec.scale (xF (XA m c) ⟨b.val * 4096 + l.val, by omega⟩) (nF (NA m c)) :=
  (diagRow_apply _ b _).trans (scalesJ_apply _ _ (32 * b.val + l.val / 128) _ _ _
    (by show b.val * 4096 + l.val = 128 * (32 * b.val + l.val / 128) + l.val % 128; omega))

end Cert.KernelIdeal.Run
-- ==== Proof.Entry.lean ====
module

public import proofs.«01_k».proof.Proof.KernelValue
public import Idealize.ShloMosaic.Lib.StableHlo.ReadAt

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

/-! The arrays that the kernel's region finds, from its arguments. -/

variable (m : (ℓ : Loc nD τ sig) → Buf (Elt Ideal) ℓ) (c : Dev nD)

/-- The arguments. -/
abbrev A0 : S6x4096x5120.Idx → EReal := m ((c.tc : Thread nD τ).loc main_arg0)
abbrev A1 : S5120.Idx → EReal := m ((c.tc : Thread nD τ).loc main_arg1)
abbrev A2 : S5120x10240.Idx → EReal := m ((c.tc : Thread nD τ).loc main_arg2)
abbrev A3 : S10240.Idx → EReal := m ((c.tc : Thread nD τ).loc main_arg3)
abbrev A4 : S128.Idx → EReal := m ((c.tc : Thread nD τ).loc main_arg4)
abbrev A5 : S128.Idx → EReal := m ((c.tc : Thread nD τ).loc main_arg5)

/-- The array of tokens that the grid reads: the sequences one after the other. -/
theorem v0_apply (t : Fin 24576) (k : Fin 5120) : (V m c main_v0 : S24576x5120.Idx → EReal) (ix2 t k) = Spec.tokens (A0 m c) t k := by
  unfold V
  after_reads_at
  rfl

/-- The norm's weight as a row. -/
theorem v4_apply (k : Fin 5120) : (V m c main_v4 : S1x5120.Idx → EReal) (ix2 (0 : Fin 1) k) = Spec.vec (A1 m c) k := by
  unfold V
  after_reads_at
  rfl

/-- The weight's column scales as a row. -/
theorem v5_apply (k : Fin 10240) : (V m c main_v5 : S1x10240.Idx → EReal) (ix2 (0 : Fin 1) k) = Spec.vec (A3 m c) k := by
  unfold V
  after_reads_at
  rfl

/-- Row 0 of the head weights: the query norm's. -/
theorem v3_apply0 (k : Fin 128) : (V m c main_v3 : S2x128.Idx → EReal) (ix2 (0 : Fin 2) k) = Spec.vec (A4 m c) k := by
  unfold V
  after_reads_at
  rfl

/-- Row 1 of the head weights: the key norm's. -/
theorem v3_apply1 (k : Fin 128) : (V m c main_v3 : S2x128.Idx → EReal) (ix2 (1 : Fin 2) k) = Spec.vec (A5 m c) k := by
  unfold V
  after_reads_at
  rfl

theorem xF_eq : xF (XA m c) = Spec.tokens (A0 m c) := funext fun t => funext fun k => v0_apply m c t k
theorem nF_eq : nF (NA m c) = Spec.vec (A1 m c) := funext fun k => v4_apply m c k
theorem wF_eq : wF (WA m c) = Spec.mat (A2 m c) := funext fun k => funext fun j => congrFun (V_main_arg2 m c) (ix2 k j)
theorem sF_eq : sF (SA m c) = Spec.vec (A3 m c) := funext fun k => v5_apply m c k
theorem gF0_eq : gF (HA m c) 0 = Spec.vec (A4 m c) := funext fun k => v3_apply0 m c k
theorem gF1_eq : gF (HA m c) 1 = Spec.vec (A5 m c) := funext fun k => v3_apply1 m c k

/-- The queries from the arguments. -/
theorem outQ_eq (t : Fin 24576) (h : Fin 64) (l : Fin 128) :
    outQ m c (ix3 t h l) = Spec.queries (Spec.tokens (A0 m c)) (Spec.vec (A1 m c)) (Spec.mat (A2 m c)) (Spec.vec (A3 m c)) (Spec.vec (A4 m c)) t h l := by
  rw [outQ_apply, xF_eq, nF_eq, wF_eq, sF_eq, gF0_eq]

/-- The keys from the arguments. -/
theorem outK_eq (t : Fin 24576) (h : Fin 8) (l : Fin 128) :
    outK m c (ix3 t h l) = Spec.keys (Spec.tokens (A0 m c)) (Spec.vec (A1 m c)) (Spec.mat (A2 m c)) (Spec.vec (A3 m c)) (Spec.vec (A5 m c)) t h l := by
  rw [outK_apply, xF_eq, nF_eq, wF_eq, sF_eq, gF1_eq]

/-- The values from the arguments. -/
theorem outV_eq (t : Fin 24576) (h : Fin 8) (l : Fin 128) :
    outV m c (ix3 t h l) = Spec.vals (Spec.tokens (A0 m c)) (Spec.vec (A1 m c)) (Spec.mat (A2 m c)) (Spec.vec (A3 m c)) t h l := by
  rw [outV_apply, xF_eq, nF_eq, wF_eq, sF_eq]

/-- The codes from the arguments. -/
theorem outC_eq (t : Fin 24576) (k : Fin 5120) : outC m c (ix2 t k) = Spec.code (Spec.tokens (A0 m c) t) (Spec.vec (A1 m c)) k := by
  rw [outC_apply, xF_eq, nF_eq]

/-- The scales from the arguments. -/
theorem outS_eq (b : Fin 6) (l : Fin 4096) :
    outS m c (ix2 b l) = Spec.scale (Spec.tokens (A0 m c) ⟨b.val * 4096 + l.val, by omega⟩) (Spec.vec (A1 m c)) := by
  rw [outS_apply, xF_eq, nF_eq]

end Cert.KernelIdeal.Run
-- ==== Proof.ReferenceValue.lean ====
module

public import proofs.«01_k».proof.Proof.Gen.ReferenceIdeal.Frame
public import Idealize.ShloMosaic.Lib.Pipeline.ValueKit
public import Idealize.ShloMosaic.Lib.Pointwise
public import proofs.«01_k».proof.Proof.Exponent

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic

/-! What the reference's body computes over the extended reals, entry by entry. -/

/-- The normed tokens. -/
theorem norm_apply (x : Vec Ideal S24576x5120 .bf16) (nw : Vec Ideal S1x5120 .f32) (t : Fin 24576) (j : Fin 5120) :
    k0_pay4 x nw (ix2 t j) = Spec.hRow (fun k => x (ix2 t k)) (fun k => nw (ix2 0 k)) j := by
  have e : (∑ k, (x (ix2 t k) : EReal) * x (ix2 t k)) * ((1 / 5120 : ℝ) : EReal) = Ideal.div (∑ k, (x (ix2 t k) : EReal) * x (ix2 t k)) (Ideal.ofBits .f32 0x45A00000#32) := by
    rw [Spec.bits_5120, Spec.div_real _ _ (by norm_num)]
  unfold Spec.hRow
  rw [e]
  pointwise [k0_pay4]
  rfl

/-- The largest magnitudes over `448` of the rows of an array. -/
def peakOf (h : FVec Ideal S24576x5120 .f32) : FVec Ideal S24576x1 .f32 :=
  mulf (shapeCast S24576x1 (multiReduction .maximumf [1] S24576 (absf h) 0xFF800000#32 reduces_S24576x5120_S24576 (.inl rfl) rfl) shapeCasts_S24576_S24576x1)
    (broadcast S24576x1 (Scalar.ofBits .f32 0x3B124925#32))

theorem column_apply (v : FVec Ideal S24576 .f32) (t : Fin 24576) : shapeCast S24576x1 v shapeCasts_S24576_S24576x1 (ix2 t 0) = v (ix1 t) := by
  pointwise

theorem rowMax_apply (h : FVec Ideal S24576x5120 .f32) (t : Fin 24576) :
    multiReduction (F := Ideal) .maximumf [1] S24576 (absf h) 0xFF800000#32 reduces_S24576x5120_S24576 (.inl rfl) rfl (ix1 t)
      = Finset.univ.fold max (Ideal.ofBits .f32 0xFF800000#32) (fun j => FloatOps.absf (F := Ideal) (φ := .f32) (h (ix2 t j))) := by
  pointwise

theorem times_apply (v : FVec Ideal S24576x1 .f32) (t : Fin 24576) :
    mulf v (broadcast S24576x1 (Scalar.ofBits .f32 0x3B124925#32)) (ix2 t 0) = (v (ix2 t 0) : EReal) * Spec.c448 := by
  pointwise
  rfl

theorem fold_abs (h : Fin 5120 → EReal) :
    Finset.univ.fold max (Ideal.ofBits .f32 0xFF800000#32) (fun j => FloatOps.absf (F := Ideal) (φ := .f32) (h j)) * Spec.c448 = (Finset.univ.sup fun j : Fin 5120 => max (h j) (-h j)) * Spec.c448 := by
  rw [Spec.fold_max]
  rfl

theorem peakOf_apply (h : FVec Ideal S24576x5120 .f32) (t : Fin 24576) :
    peakOf h (ix2 t 0) = (Finset.univ.sup fun j : Fin 5120 => max (h (ix2 t j) : EReal) (-h (ix2 t j))) * Spec.c448 := by
  unfold peakOf
  rw [times_apply, column_apply, rowMax_apply]
  exact fold_abs fun j => h (ix2 t j)

theorem peak_apply (x : Vec Ideal S24576x5120 .bf16) (nw : Vec Ideal S1x5120 .f32) (t : Fin 24576) :
    peakOf (k0_pay4 x nw) (ix2 t 0) = Spec.peak (fun k => x (ix2 t k)) (fun k => nw (ix2 0 k)) := by
  rw [peakOf_apply]
  unfold Spec.peak
  simp only [norm_apply]

/-- The exponent as the body writes it, of one number. -/
theorem expo_word (v : EReal) :
    Scalar.select (IntOp.andi (FloatOps.cmpf (F := Ideal) (φ := .f32) .oge v (Scalar.ofBits (F := Ideal) .f32 0x00800000#32)) (FloatOps.cmpf (F := Ideal) (φ := .f32) .olt v (Scalar.ofBits (F := Ideal) .f32 0x7E800000#32)))
      (FloatOps.addf (F := Ideal) (φ := .f32) (FloatOps.floor (F := Ideal) (φ := .f32) (FloatOps.divf (F := Ideal) (φ := .f32) (FloatOps.log (F := Ideal) (φ := .f32) v)
        (FloatOps.log (F := Ideal) (φ := .f32) (Scalar.ofBits (F := Ideal) .f32 0x40000000#32)))) (Scalar.ofBits (F := Ideal) .f32 0x3F800000#32))
      (Scalar.ofBits (F := Ideal) .f32 0x00000000#32) = Spec.expoF v := by
  show Scalar.select (IntOp.andi (BitVec.ofBool (decide (Ideal.ofBits .f32 0x00800000#32 ≤ v))) (BitVec.ofBool (decide (v < Ideal.ofBits .f32 0x7E800000#32))))
    (Ideal.liftRound Int.floor (Ideal.div (Ideal.log v) (Ideal.log (Ideal.ofBits .f32 0x40000000#32))) + Ideal.ofBits .f32 0x3F800000#32) (Ideal.ofBits .f32 0x00000000#32) = _
  rw [Spec.lo_bits, Spec.hi_bits, Spec.bits_two, Spec.bits_one, Spec.bits_zero]
  unfold Spec.expoF
  by_cases h1 : (((2 : ℝ) ^ (-126 : ℤ) : ℝ) : EReal) ≤ v <;> by_cases h2 : v < (((2 : ℝ) ^ (126 : ℤ) : ℝ) : EReal) <;>
    simp only [h1, h2, decide_true, decide_false, and_self, and_false, false_and, if_true, if_false] <;> rfl

/-- The exponents of an array of numbers, as the body writes them. -/
def expoOf (v : FVec Ideal S24576x1 .f32) : FVec Ideal S24576x1 .f32 :=
  select (andi (cmpf .oge v (broadcast S24576x1 (Scalar.ofBits .f32 0x00800000#32))) (cmpf .olt v (broadcast S24576x1 (Scalar.ofBits .f32 0x7E800000#32))))
    (addf (floor (divf (log v) (log (broadcast S24576x1 (Scalar.ofBits .f32 0x40000000#32))))) (broadcast S24576x1 (Scalar.ofBits .f32 0x3F800000#32)))
    (broadcast S24576x1 (Scalar.ofBits .f32 0x00000000#32))

theorem expoOf_apply (v : FVec Ideal S24576x1 .f32) (y : S24576x1.Idx) : expoOf v y = Spec.expoF (v y) := expo_word (v y)

theorem expo_eq (x : Vec Ideal S24576x5120 .bf16) (nw : Vec Ideal S1x5120 .f32) : k0_pay5 x nw = expoOf (peakOf (k0_pay4 x nw)) := rfl

theorem expo_apply (x : Vec Ideal S24576x5120 .bf16) (nw : Vec Ideal S1x5120 .f32) (t : Fin 24576) :
    k0_pay5 x nw (ix2 t 0) = Spec.expoF (Spec.peak (fun k => x (ix2 t k)) (fun k => nw (ix2 0 k))) := by
  rw [expo_eq, expoOf_apply, peak_apply]

theorem exp2_of (v : FVec Ideal S24576x1 .f32) (y : S24576x1.Idx) : exp2 v y = Ideal.exp2 (v y) := rfl

/-- The scales. -/
theorem scale_apply (x : Vec Ideal S24576x5120 .bf16) (nw : Vec Ideal S1x5120 .f32) (t : Fin 24576) :
    k0_pay6 x nw (ix2 t 0) = Spec.scale (fun k => x (ix2 t k)) (fun k => nw (ix2 0 k)) := by
  unfold k0_pay6
  rw [exp2_of, expo_apply, Spec.scale_exp2]; rfl

/-- The rows of an array over their scales, from the exponents. -/
def scaledOf (h : FVec Ideal S24576x5120 .f32) (e : FVec Ideal S24576x1 .f32) : FVec Ideal S24576x5120 .f32 :=
  mulf h (broadcastTo S24576x5120 (exp2 (subf (broadcast S24576x1 (Scalar.ofBits .f32 0x00000000#32)) e)) broadcasts_S24576x1_S24576x5120)

theorem scaled_eq (x : Vec Ideal S24576x5120 .bf16) (nw : Vec Ideal S1x5120 .f32) : k0_pay7 x nw = scaledOf (k0_pay4 x nw) (k0_pay5 x nw) := rfl

theorem across_apply (v : FVec Ideal S24576x1 .f32) (t : Fin 24576) (j : Fin 5120) : broadcastTo S24576x5120 v broadcasts_S24576x1_S24576x5120 (ix2 t j) = v (ix2 t 0) := by
  pointwise

theorem minus_apply (e : FVec Ideal S24576x1 .f32) (t : Fin 24576) : subf (broadcast S24576x1 (Scalar.ofBits .f32 0x00000000#32)) e (ix2 t 0) = (0 - e (ix2 t 0) : EReal) := by
  pointwise

theorem mulf_ideal (a b : FVec Ideal S24576x5120 .f32) (y : S24576x5120.Idx) : mulf a b y = (a y * b y : EReal) := rfl

theorem scaledOf_apply (h : FVec Ideal S24576x5120 .f32) (e : FVec Ideal S24576x1 .f32) (t : Fin 24576) (j : Fin 5120) :
    scaledOf h e (ix2 t j) = (h (ix2 t j) * Ideal.exp2 (0 - e (ix2 t 0)) : EReal) := by
  unfold scaledOf
  rw [mulf_ideal, across_apply, exp2_of, minus_apply]

/-- The normed tokens over their scales. -/
theorem scaled_apply (x : Vec Ideal S24576x5120 .bf16) (nw : Vec Ideal S1x5120 .f32) (t : Fin 24576) (j : Fin 5120) :
    k0_pay7 x nw (ix2 t j) = Spec.hRow (fun k => x (ix2 t k)) (fun k => nw (ix2 0 k)) j * Spec.invOf (Spec.peak (fun k => x (ix2 t k)) (fun k => nw (ix2 0 k))) := by
  rw [scaled_eq, scaledOf_apply, norm_apply, expo_apply, Spec.inv_exp2]

/-- The codes. -/
theorem code_apply (x : Vec Ideal S24576x5120 .bf16) (nw : Vec Ideal S1x5120 .f32) (t : Fin 24576) (j : Fin 5120) :
    k0_pay9 (k0_pay7 x nw) (Scalar.ofBits .f32 0x43E00000#32) k0_pay8 (ix2 t j) = Spec.code (fun k => x (ix2 t k)) (fun k => nw (ix2 0 k)) j := by
  unfold Spec.code
  rw [← scaled_apply]
  pointwise [k0_pay9, k0_pay8]

/-- The projection. -/
theorem proj_apply (x : Vec Ideal S24576x5120 .bf16) (nw : Vec Ideal S1x5120 .f32) (w : Vec Ideal S5120x10240 .fp8e4m3) (ws : Vec Ideal S1x10240 .f32) (t : Fin 24576) (c : Fin 10240) :
    k0_pay10 (k0_pay6 x nw) (k0_pay7 x nw) (Scalar.ofBits .f32 0x43E00000#32) k0_pay8 w ws (ix2 t c)
      = Spec.projAt (fun t k => x (ix2 t k)) (fun k => nw (ix2 0 k)) (fun k c => w (ix2 k c)) (fun c => ws (ix2 0 c)) t c := by
  have e : k0_pay10 (k0_pay6 x nw) (k0_pay7 x nw) (Scalar.ofBits .f32 0x43E00000#32) k0_pay8 w ws (ix2 t c)
      = (∑ k, (k0_pay9 (k0_pay7 x nw) (Scalar.ofBits .f32 0x43E00000#32) k0_pay8 (ix2 t k) : EReal) * w (ix2 k c)) * k0_pay6 x nw (ix2 t 0) * ws (ix2 0 c) := by
    pointwise [k0_pay10]
  rw [e, scale_apply]
  unfold Spec.projAt Spec.proj
  refine congrArg (fun q : EReal => q * Spec.scale (fun k => x (ix2 t k)) (fun k => nw (ix2 0 k)) * ws (ix2 0 c)) (Finset.sum_congr rfl fun k _ => ?_)
  rw [code_apply]

/-- The norm of a head, as the body writes it. -/
theorem head_div (y g : Fin 128 → EReal) (l : Fin 128) :
    y l * Ideal.rsqrt (Ideal.div (∑ k, y k * y k) (Ideal.ofBits .f32 0x43000000#32) + Ideal.ofBits .f32 0x358637BD#32) * g l = Spec.headRow y g l := by
  rw [Spec.bits_128, Spec.div_real _ _ (by norm_num)]; rfl

section Outs
variable (x : Vec Ideal S24576x5120 .bf16) (nw : Vec Ideal S1x5120 .f32) (w : Vec Ideal S5120x10240 .fp8e4m3) (ws : Vec Ideal S1x10240 .f32) (g : Vec Ideal S1x1x128 .f32)

abbrev xF : Fin 24576 → Fin 5120 → EReal := fun t k => x (ix2 t k)
abbrev nF : Fin 5120 → EReal := fun k => nw (ix2 0 k)
abbrev wF : Fin 5120 → Fin 10240 → EReal := fun k c => w (ix2 k c)
abbrev sF : Fin 10240 → EReal := fun c => ws (ix2 0 c)
abbrev gF : Fin 128 → EReal := fun l => g (ix3 0 0 l)

/-- The projection as the body names it. -/
abbrev projT : FVec Ideal S24576x10240 .f32 := k0_pay10 (k0_pay6 x nw) (k0_pay7 x nw) (Scalar.ofBits .f32 0x43E00000#32) k0_pay8 w ws

theorem queries_apply (t : Fin 24576) (h : Fin 64) (l : Fin 128) :
    k0_pay11 (k0_pay6 x nw) (k0_pay7 x nw) (Scalar.ofBits .f32 0x43E00000#32) k0_pay8 w ws g (ix3 t h l) = Spec.queries (xF x) (nF nw) (wF w) (sF ws) (gF g) t h l := by
  unfold Spec.queries
  rw [← head_div]
  simp only [← proj_apply]
  pointwise [k0_pay11]

theorem key_apply (t : Fin 24576) (h : Fin 8) (l : Fin 128) :
    k0_pay12 (k0_pay6 x nw) (k0_pay7 x nw) (Scalar.ofBits .f32 0x43E00000#32) k0_pay8 w ws (ix3 t h l)
      = Spec.projAt (xF x) (nF nw) (wF w) (sF ws) t ⟨8192 + (h.val * 128 + l.val), by omega⟩ := by
  rw [← proj_apply]
  pointwise [k0_pay12]

theorem keys_apply (t : Fin 24576) (h : Fin 8) (l : Fin 128) :
    k0_pay1 (k0_pay12 (k0_pay6 x nw) (k0_pay7 x nw) (Scalar.ofBits .f32 0x43E00000#32) k0_pay8 w ws) (k0_pay13 g)
      (k0_pay14 (k0_pay6 x nw) (k0_pay7 x nw) (Scalar.ofBits .f32 0x43E00000#32) k0_pay8 w ws) (Scalar.ofBits .f32 0x358637BD#32) (ix3 t h l)
      = Spec.keys (xF x) (nF nw) (wF w) (sF ws) (gF g) t h l := by
  unfold Spec.keys
  rw [← head_div]
  simp only [← key_apply]
  pointwise [k0_pay1, k0_pay13, k0_pay14]

theorem vals_of (y : FVec Ideal S24576x10240 .f32) (t : Fin 24576) (h : Fin 8) (l : Fin 128) :
    k0_pay2 y (ix3 t h l) = y (ix2 t ⟨9216 + (h.val * 128 + l.val), by omega⟩) := by
  pointwise [k0_pay2]

theorem vals_apply (t : Fin 24576) (h : Fin 8) (l : Fin 128) :
    k0_pay2 (projT x nw w ws) (ix3 t h l) = Spec.vals (xF x) (nF nw) (wF w) (sF ws) t h l := by
  rw [vals_of]
  exact proj_apply x nw w ws t _

theorem scales_apply (b : Fin 6) (l : Fin 4096) :
    k0_pay3 (k0_pay6 x nw) (ix2 b l) = Spec.scale (xF x ⟨b.val * 4096 + l.val, by omega⟩) (nF nw) := by
  rw [← scale_apply]
  pointwise [k0_pay3]

end Outs

end Cert.ReferenceIdeal.Val
-- ==== Proof.ReferenceArrays.lean ====
module

public import proofs.«01_k».proof.Proof.ReferenceValue
public import Idealize.ShloMosaic.Lib.StableHlo.ReadAt
public import Idealize.ShloMosaic.Lib.Claim

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.ShloMosaic.Pipeline (Dat)
open Idealize.SL.Sem

/-! What the reference's arrays hold after its run, from its arguments. -/

variable (m : (ℓ : Loc nD τ sig) → Buf (Elt Ideal) ℓ) (c : Dev nD)

/-- The arguments. -/
abbrev A0 : S6x4096x5120.Idx → EReal := m ((c.tc : Thread nD τ).loc main_arg0)
abbrev A1 : S5120.Idx → EReal := m ((c.tc : Thread nD τ).loc main_arg1)
abbrev A2 : S5120x10240.Idx → EReal := m ((c.tc : Thread nD τ).loc main_arg2)
abbrev A3 : S10240.Idx → EReal := m ((c.tc : Thread nD τ).loc main_arg3)
abbrev A4 : S128.Idx → EReal := m ((c.tc : Thread nD τ).loc main_arg4)
abbrev A5 : S128.Idx → EReal := m ((c.tc : Thread nD τ).loc main_arg5)

/-- The array of tokens, as launched: the sequences one after the other. -/
theorem v0_apply (t : Fin 24576) (k : Fin 5120) : (V m c main_v0 : S24576x5120.Idx → EReal) (ix2 t k) = Spec.tokens (A0 m c) t k := by
  unfold V
  after_reads_at
  rfl

/-- The norm's weight as a row. -/
theorem v1_apply (k : Fin 5120) : (V m c main_v1 : S1x5120.Idx → EReal) (ix2 (0 : Fin 1) k) = Spec.vec (A1 m c) k := by
  unfold V
  after_reads_at
  rfl

/-- The weight's column scales as a row. -/
theorem v2_apply (k : Fin 10240) : (V m c main_v2 : S1x10240.Idx → EReal) (ix2 (0 : Fin 1) k) = Spec.vec (A3 m c) k := by
  unfold V
  after_reads_at
  rfl

/-- The query norm's weight. -/
theorem v3_apply (k : Fin 128) : (V m c main_v3 : S1x1x128.Idx → EReal) (ix3 (0 : Fin 1) (0 : Fin 1) k) = Spec.vec (A4 m c) k := by
  unfold V
  after_reads_at
  rfl

/-- The key norm's weight. -/
theorem v4_apply (k : Fin 128) : (V m c main_v4 : S1x1x128.Idx → EReal) (ix3 (0 : Fin 1) (0 : Fin 1) k) = Spec.vec (A5 m c) k := by
  unfold V
  after_reads_at
  rfl

/-- The one grid point. -/
abbrev t0 : Fin cfg0.N := ⟨0, by decide⟩

/-- The block of the one point is the whole array: the tokens. -/
theorem blk0 (t : Fin 24576) (k : Fin 5120) : (iblk m c 0 t0 : Vec Ideal S24576x5120 .bf16) (ix2 t k) = Spec.tokens (A0 m c) t k := by
  refine Eq.trans ?_ (v0_apply m c t k)
  unfold iblk
  refine congrArg (V m c main_v0 : S24576x5120.Idx → EReal) (funext (Fin.forall_fin_two.mpr ⟨Fin.ext ?_, Fin.ext ?_⟩))
  all_goals blk_simp
  all_goals simp only [show ∀ a, win0_0.index t0 a = 0 from by decide, Nat.zero_mul, Nat.zero_add]

/-- The norm's weight, whole. -/
theorem blk1 (k : Fin 5120) : (iblk m c 1 t0 : Vec Ideal S1x5120 .f32) (ix2 (0 : Fin 1) k) = Spec.vec (A1 m c) k := by
  refine Eq.trans ?_ (v1_apply m c k)
  unfold iblk
  refine congrArg (V m c main_v1 : S1x5120.Idx → EReal) (funext (Fin.forall_fin_two.mpr ⟨Fin.ext ?_, Fin.ext ?_⟩))
  all_goals blk_simp
  all_goals simp only [show ∀ a, win0_1.index t0 a = 0 from by decide, Nat.zero_mul, Nat.zero_add]

/-- The projection's weight, whole. -/
theorem blk2 (k : Fin 5120) (j : Fin 10240) : (iblk m c 2 t0 : Vec Ideal S5120x10240 .fp8e4m3) (ix2 k j) = Spec.mat (A2 m c) k j := by
  refine Eq.trans ?_ (congrFun (V_main_arg2 m c) (ix2 k j))
  unfold iblk
  refine congrArg (V m c main_arg2 : S5120x10240.Idx → EReal) (funext (Fin.forall_fin_two.mpr ⟨Fin.ext ?_, Fin.ext ?_⟩))
  all_goals blk_simp
  all_goals simp only [show ∀ a, win0_2.index t0 a = 0 from by decide, Nat.zero_mul, Nat.zero_add]

/-- The column scales, whole. -/
theorem blk3 (k : Fin 10240) : (iblk m c 3 t0 : Vec Ideal S1x10240 .f32) (ix2 (0 : Fin 1) k) = Spec.vec (A3 m c) k := by
  refine Eq.trans ?_ (v2_apply m c k)
  unfold iblk
  refine congrArg (V m c main_v2 : S1x10240.Idx → EReal) (funext (Fin.forall_fin_two.mpr ⟨Fin.ext ?_, Fin.ext ?_⟩))
  all_goals blk_simp
  all_goals simp only [show ∀ a, win0_3.index t0 a = 0 from by decide, Nat.zero_mul, Nat.zero_add]

/-- The query norm's weight, whole. -/
theorem blk4 (k : Fin 128) : (iblk m c 4 t0 : Vec Ideal S1x1x128 .f32) (ix3 (0 : Fin 1) (0 : Fin 1) k) = Spec.vec (A4 m c) k := by
  refine Eq.trans ?_ (v3_apply m c k)
  unfold iblk
  refine congrArg (V m c main_v3 : S1x1x128.Idx → EReal) (funext (Fin.forall_fin_succ.mpr ⟨Fin.ext ?_, Fin.forall_fin_two.mpr ⟨Fin.ext ?_, Fin.ext ?_⟩⟩))
  all_goals blk_simp
  all_goals simp only [show ∀ a, win0_4.index t0 a = 0 from by decide, Nat.zero_mul, Nat.zero_add]

/-- The key norm's weight, whole. -/
theorem blk5 (k : Fin 128) : (iblk m c 5 t0 : Vec Ideal S1x1x128 .f32) (ix3 (0 : Fin 1) (0 : Fin 1) k) = Spec.vec (A5 m c) k := by
  refine Eq.trans ?_ (v4_apply m c k)
  unfold iblk
  refine congrArg (V m c main_v4 : S1x1x128.Idx → EReal) (funext (Fin.forall_fin_succ.mpr ⟨Fin.ext ?_, Fin.forall_fin_two.mpr ⟨Fin.ext ?_, Fin.ext ?_⟩⟩))
  all_goals blk_simp
  all_goals simp only [show ∀ a, win0_5.index t0 a = 0 from by decide, Nat.zero_mul, Nat.zero_add]

/-- The arguments as functions of coordinates. -/
abbrev X : Fin 24576 → Fin 5120 → EReal := Spec.tokens (A0 m c)
abbrev N : Fin 5120 → EReal := Spec.vec (A1 m c)
abbrev W : Fin 5120 → Fin 10240 → EReal := Spec.mat (A2 m c)
abbrev S : Fin 10240 → EReal := Spec.vec (A3 m c)

theorem xF_eq : xF (iblk m c 0 t0 : Vec Ideal S24576x5120 .bf16) = X m c := funext fun t => funext fun k => blk0 m c t k
theorem nF_eq : nF (iblk m c 1 t0 : Vec Ideal S1x5120 .f32) = N m c := funext fun k => blk1 m c k
theorem wF_eq : wF (iblk m c 2 t0 : Vec Ideal S5120x10240 .fp8e4m3) = W m c := funext fun k => funext fun j => blk2 m c k j
theorem sF_eq : sF (iblk m c 3 t0 : Vec Ideal S1x10240 .f32) = S m c := funext fun k => blk3 m c k
theorem gF4_eq : gF (iblk m c 4 t0 : Vec Ideal S1x1x128 .f32) = Spec.vec (A4 m c) := funext fun k => blk4 m c k
theorem gF5_eq : gF (iblk m c 5 t0 : Vec Ideal S1x1x128 .f32) = Spec.vec (A5 m c) := funext fun k => blk5 m c k

section Pays
variable (x0 : Vec Ideal S24576x5120 .bf16) (x1 : Vec Ideal S1x5120 .f32) (x2 : Vec Ideal S5120x10240 .fp8e4m3) (x3 : Vec Ideal S1x10240 .f32) (x4 x5 : Vec Ideal S1x1x128 .f32)

/-- What the body leaves in the queries' array, without its whole-array accesses. -/
theorem out6_eq : out0_6 x0 x1 x2 x3 x4 x5 = k0_pay11 (k0_pay6 x0 x1) (k0_pay7 x0 x1) (Scalar.ofBits .f32 0x43E00000#32) k0_pay8 x2 x3 x4 := by
  unfold_out out0_6
  rw [View.canon_cons_unit_lit _ _ _ (by decide), View.ld_unit_lit _ x0 (by decide), View.ld_unit_lit _ x1 (by decide), View.ld_unit_lit _ x2 (by decide), View.ld_unit_lit _ x3 (by decide), View.ld_unit_lit _ x4 (by decide)]

/-- The same of the keys. -/
theorem out7_eq : out0_7 x0 x1 x2 x3 x4 x5 = k0_pay1 (k0_pay12 (k0_pay6 x0 x1) (k0_pay7 x0 x1) (Scalar.ofBits .f32 0x43E00000#32) k0_pay8 x2 x3) (k0_pay13 x5)
      (k0_pay14 (k0_pay6 x0 x1) (k0_pay7 x0 x1) (Scalar.ofBits .f32 0x43E00000#32) k0_pay8 x2 x3) (Scalar.ofBits .f32 0x358637BD#32) := by
  unfold_out out0_7
  rw [View.canon_cons_unit_lit _ _ _ (by decide), View.ld_unit_lit _ x0 (by decide), View.ld_unit_lit _ x1 (by decide), View.ld_unit_lit _ x2 (by decide), View.ld_unit_lit _ x3 (by decide), View.ld_unit_lit _ x5 (by decide)]

/-- The same of the values. -/
theorem out8_eq : out0_8 x0 x1 x2 x3 x4 x5 = k0_pay2 (projT x0 x1 x2 x3) := by
  unfold_out out0_8
  rw [View.canon_cons_unit_lit _ _ _ (by decide), View.ld_unit_lit _ x0 (by decide), View.ld_unit_lit _ x1 (by decide), View.ld_unit_lit _ x2 (by decide), View.ld_unit_lit _ x3 (by decide)]

/-- The same of the codes. -/
theorem out9_eq : out0_9 x0 x1 x2 x3 x4 x5 = k0_pay9 (k0_pay7 x0 x1) (Scalar.ofBits .f32 0x43E00000#32) k0_pay8 := by
  unfold_out out0_9
  rw [View.canon_cons_unit_lit _ _ _ (by decide), View.ld_unit_lit _ x0 (by decide), View.ld_unit_lit _ x1 (by decide)]

/-- The same of the scales. -/
theorem out10_eq : out0_10 x0 x1 x2 x3 x4 x5 = k0_pay3 (k0_pay6 x0 x1) := by
  unfold_out out0_10
  rw [View.canon_cons_unit_lit _ _ _ (by decide), View.ld_unit_lit _ x0 (by decide), View.ld_unit_lit _ x1 (by decide)]

end Pays

/-- The five arrays. -/
def refQ : S24576x64x128.Idx → EReal := fun y => Spec.queries (X m c) (N m c) (W m c) (S m c) (Spec.vec (A4 m c)) (y 0) (y 1) (y 2)
def refK : S24576x8x128.Idx → EReal := fun y => Spec.keys (X m c) (N m c) (W m c) (S m c) (Spec.vec (A5 m c)) (y 0) (y 1) (y 2)
def refV : S24576x8x128.Idx → EReal := fun y => Spec.vals (X m c) (N m c) (W m c) (S m c) (y 0) (y 1) (y 2)
def refC : S24576x5120.Idx → EReal := fun y => Spec.code (X m c (y 0)) (N m c) (y 1)
def refS : S6x4096.Idx → EReal := fun y => Spec.scale (X m c ⟨(y 0).val * 4096 + (y 1).val, by have h0 := (y 0).isLt; have h1 := (y 1).isLt; change (y 0).val < 6 at h0; change (y 1).val < 4096 at h1; omega⟩) (N m c)

/-- The body leaves the queries. -/
theorem after6 (t : Fin 24576) (h : Fin 64) (l : Fin 128) : ((dats m 0 c).after 6 t0 : S24576x64x128.Idx → EReal) (ix3 t h l) = refQ m c (ix3 t h l) := by
  rw [after0_6, out6_eq, queries_apply, xF_eq, nF_eq, wF_eq, sF_eq, gF4_eq]; rfl

/-- The body leaves the keys. -/
theorem after7 (t : Fin 24576) (h : Fin 8) (l : Fin 128) : ((dats m 0 c).after 7 t0 : S24576x8x128.Idx → EReal) (ix3 t h l) = refK m c (ix3 t h l) := by
  rw [after0_7, out7_eq, keys_apply, xF_eq, nF_eq, wF_eq, sF_eq, gF5_eq]; rfl

/-- The body leaves the values. -/
theorem after8 (t : Fin 24576) (h : Fin 8) (l : Fin 128) : ((dats m 0 c).after 8 t0 : S24576x8x128.Idx → EReal) (ix3 t h l) = refV m c (ix3 t h l) := by
  rw [after0_8, out8_eq, vals_apply, xF_eq, nF_eq, wF_eq, sF_eq]; rfl

/-- The body leaves the codes. -/
theorem after9 (t : Fin 24576) (k : Fin 5120) : ((dats m 0 c).after 9 t0 : S24576x5120.Idx → EReal) (ix2 t k) = refC m c (ix2 t k) := by
  rw [after0_9, out9_eq, code_apply]
  exact congrArg₂ (fun a b => Spec.code a b k) (congrFun (xF_eq m c) t) (nF_eq m c)

/-- The body leaves the scales. -/
theorem after10 (b : Fin 6) (l : Fin 4096) : ((dats m 0 c).after 10 t0 : S6x4096.Idx → EReal) (ix2 b l) = refS m c (ix2 b l) := by
  rw [after0_10, out10_eq, scales_apply, xF_eq, nF_eq]; rfl

/-- The array of queries after the run. -/
theorem arr6 : (dats m 0 c).arrAt 6 cfg0.N = refQ m c := by
  refine Pipeline.Dat.arrAt_eq_of_after_last (dats m 0 c) 6 t0 (by decide +kernel) (refQ m c) ?_
  intro j
  obtain ⟨t, h, l, rfl⟩ : ∃ t h l, j = (ix3 t h l : S24576x64x128.Idx) := ⟨j 0, j 1, j 2, eq_ix3 j⟩
  exact after6 m c t h l

/-- The array of keys after the run. -/
theorem arr7 : (dats m 0 c).arrAt 7 cfg0.N = refK m c := by
  refine Pipeline.Dat.arrAt_eq_of_after_last (dats m 0 c) 7 t0 (by decide +kernel) (refK m c) ?_
  intro j
  obtain ⟨t, h, l, rfl⟩ : ∃ t h l, j = (ix3 t h l : S24576x8x128.Idx) := ⟨j 0, j 1, j 2, eq_ix3 j⟩
  exact after7 m c t h l

/-- The array of values after the run. -/
theorem arr8 : (dats m 0 c).arrAt 8 cfg0.N = refV m c := by
  refine Pipeline.Dat.arrAt_eq_of_after_last (dats m 0 c) 8 t0 (by decide +kernel) (refV m c) ?_
  intro j
  obtain ⟨t, h, l, rfl⟩ : ∃ t h l, j = (ix3 t h l : S24576x8x128.Idx) := ⟨j 0, j 1, j 2, eq_ix3 j⟩
  exact after8 m c t h l

/-- The array of codes after the run. -/
theorem arr9 : (dats m 0 c).arrAt 9 cfg0.N = refC m c := by
  refine Pipeline.Dat.arrAt_eq_of_after_last (dats m 0 c) 9 t0 (by decide +kernel) (refC m c) ?_
  intro j
  obtain ⟨t, l, rfl⟩ : ∃ t l, j = (ix2 t l : S24576x5120.Idx) := ⟨j 0, j 1, eq_ix2 j⟩
  exact after9 m c t l

/-- The array of scales after the run. -/
theorem arr10 : (dats m 0 c).arrAt 10 cfg0.N = refS m c := by
  refine Pipeline.Dat.arrAt_eq_of_after_last (dats m 0 c) 10 t0 (by decide +kernel) (refS m c) ?_
  intro j
  obtain ⟨t, l, rfl⟩ : ∃ t l, j = (ix2 t l : S6x4096.Idx) := ⟨j 0, j 1, eq_ix2 j⟩
  exact after10 m c t l

/-- The reference's run: the five arrays hold the values above, and its arguments are as launched. -/
theorem run_values (ρ : Dev nD → PrngReg) : θ_run defs (onTc (τ := τ) (main (F := Ideal))) ⟨m, fun _ => 0, ρ⟩ (fun r => ∀ c : Dev nD,
      (r.2.mem ((c.tc : Thread nD τ).loc main_v5_0) = refQ m c
      ∧ r.2.mem ((c.tc : Thread nD τ).loc main_v5_1) = refK m c
      ∧ r.2.mem ((c.tc : Thread nD τ).loc main_v5_2) = refV m c
      ∧ r.2.mem ((c.tc : Thread nD τ).loc main_v5_3) = refC m c
      ∧ r.2.mem ((c.tc : Thread nD τ).loc main_v5_4) = refS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨⟨((h c).1 6).trans (arr6 m c), ((h c).1 7).trans (arr7 m c), ((h c).1 8).trans (arr8 m c),
      ((h c).1 9).trans (arr9 m c), ((h c).1 10).trans (arr10 m c)⟩,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.ReferenceIdeal.Val
-- ==== Proof.Equation.lean ====
module

public import proofs.«01_k».proof.Proof.Entry
public import proofs.«01_k».proof.Proof.ReferenceArrays

@[expose] public section

set_option maxRecDepth 16384

noncomputable section

namespace Cert.Proof

open Idealize.ShloMosaic Idealize.ShloMosaic.TcCoe Idealize.ShloMosaic.Tactic

/-! The equation: from equal arguments, the kernel's five arrays are the reference's. -/

section
open Cert.KernelIdeal

/-- The kernel's memory and the reference's hold the same arguments on a device. -/
structure SameArgs (m : (ℓ : Loc nD τ sig) → Buf (Elt Ideal) ℓ) (m' : (ℓ : Loc ReferenceIdeal.nD ReferenceIdeal.τ ReferenceIdeal.sig) → Buf (Elt Ideal) ℓ) (c : Dev nD) : Prop where
  a0 : Cert.ReferenceIdeal.Val.A0 m' c = Run.A0 m c
  a1 : Cert.ReferenceIdeal.Val.A1 m' c = Run.A1 m c
  a2 : Cert.ReferenceIdeal.Val.A2 m' c = Run.A2 m c
  a3 : Cert.ReferenceIdeal.Val.A3 m' c = Run.A3 m c
  a4 : Cert.ReferenceIdeal.Val.A4 m' c = Run.A4 m c
  a5 : Cert.ReferenceIdeal.Val.A5 m' c = Run.A5 m c

variable (m : (ℓ : Loc nD τ sig) → Buf (Elt Ideal) ℓ) (m' : (ℓ : Loc ReferenceIdeal.nD ReferenceIdeal.τ ReferenceIdeal.sig) → Buf (Elt Ideal) ℓ) (c : Dev nD) (h : SameArgs m m' c)
include h

/-- The queries agree. -/
theorem queries_eq : (Cert.ReferenceIdeal.Val.refQ m' c : S24576x64x128.Idx → EReal) = Run.outQ m c := by
  funext y
  obtain ⟨t, k, l, rfl⟩ : ∃ t k l, y = (ix3 t k l : S24576x64x128.Idx) := ⟨y 0, y 1, y 2, eq_ix3 y⟩
  refine Eq.trans ?_ (Run.outQ_eq m c t k l).symm
  rw [← h.a0, ← h.a1, ← h.a2, ← h.a3, ← h.a4]
  rfl

/-- The keys agree. -/
theorem keys_eq : (Cert.ReferenceIdeal.Val.refK m' c : S24576x8x128.Idx → EReal) = Run.outK m c := by
  funext y
  obtain ⟨t, k, l, rfl⟩ : ∃ t k l, y = (ix3 t k l : S24576x8x128.Idx) := ⟨y 0, y 1, y 2, eq_ix3 y⟩
  refine Eq.trans ?_ (Run.outK_eq m c t k l).symm
  rw [← h.a0, ← h.a1, ← h.a2, ← h.a3, ← h.a5]
  rfl

/-- The values agree. -/
theorem vals_eq : (Cert.ReferenceIdeal.Val.refV m' c : S24576x8x128.Idx → EReal) = Run.outV m c := by
  funext y
  obtain ⟨t, k, l, rfl⟩ : ∃ t k l, y = (ix3 t k l : S24576x8x128.Idx) := ⟨y 0, y 1, y 2, eq_ix3 y⟩
  refine Eq.trans ?_ (Run.outV_eq m c t k l).symm
  rw [← h.a0, ← h.a1, ← h.a2, ← h.a3]
  rfl

/-- The codes agree. -/
theorem codes_eq : (Cert.ReferenceIdeal.Val.refC m' c : S24576x5120.Idx → EReal) = Run.outC m c := by
  funext y
  obtain ⟨t, k, rfl⟩ : ∃ t k, y = (ix2 t k : S24576x5120.Idx) := ⟨y 0, y 1, eq_ix2 y⟩
  refine Eq.trans ?_ (Run.outC_eq m c t k).symm
  rw [← h.a0, ← h.a1]
  rfl

/-- The scales agree. -/
theorem scales_eq : (Cert.ReferenceIdeal.Val.refS m' c : S6x4096.Idx → EReal) = Run.outS m c := by
  funext y
  obtain ⟨b, l, rfl⟩ : ∃ b l, y = (ix2 b l : S6x4096.Idx) := ⟨y 0, y 1, eq_ix2 y⟩
  refine Eq.trans ?_ (Run.outS_eq m c b l).symm
  rw [← h.a0, ← h.a1]
  rfl

end

end Cert.Proof
-- ==== Proof.lean ====
/- The assembly: the three runs, the rewrites' ledger, and the equation of the kernel's results with the reference's. -/
module

public import proofs.«01_k».proof.Defs
public import proofs.«01_k».proof.Proof.FrameKernel
public import proofs.«01_k».proof.Proof.Equation
public import proofs.«01_k».proof.Proof.Gen.Kernel
public import proofs.«01_k».proof.Proof.Gen.KernelIdeal
public import proofs.«01_k».proof.Proof.Gen.ReferenceIdeal
public import Idealize.ShloMosaic.Lib.Bf16Pair

@[expose] public section

noncomputable section

namespace Cert.Proof

open Idealize.ShloMosaic Idealize.SL.Sem

/-- The kernel over the extended reals runs, and leaves its arguments as they were. -/
theorem frame_KernelIdeal : @Cert.quiescent_KernelIdeal Cert.KernelIdeal.Gen.facts := fun m g _ =>
  (θ_run _ _ _).mono (fun _ h => ⟨fun c => (h.1 c).2, h.2⟩) (Cert.KernelIdeal.Run.run_values (F := Ideal) m g)

/-- The rewrites' ledger. -/
theorem preserves : Cert.preserves_Kernel_KernelIdeal :=
  ⟨IdealRules.named_const.statement _ _ _ _ _ rfl, IdealRules.bf16_pair.packStatement _, IdealRules.bf16_pair.statement _ _⟩

/-- From equal arguments the kernel and the reference leave the same five arrays. -/
theorem algebraic : @Cert.algebraic_KernelIdeal_ReferenceIdeal Cert.KernelIdeal.Gen.facts Cert.ReferenceIdeal.Gen.facts := by
  intro m g m' g' _ hagree
  have same (c : Dev Cert.KernelIdeal.nD) : SameArgs m m' c :=
    ⟨(hagree c).1, (hagree c).2.1, (hagree c).2.2.1, (hagree c).2.2.2.1, (hagree c).2.2.2.2.1, (hagree c).2.2.2.2.2⟩
  refine ⟨fun c => Cert.KernelIdeal.Run.outQ m c, fun c => Cert.KernelIdeal.Run.outK m c, fun c => Cert.KernelIdeal.Run.outV m c,
    fun c => Cert.KernelIdeal.Run.outC m c, fun c => Cert.KernelIdeal.Run.outS m c, ?_, ?_⟩
  · exact (θ_run _ _ _).mono (fun _ h c => ⟨(h.1 c).1.1, (h.1 c).1.2.1, (h.1 c).1.2.2.1, (h.1 c).1.2.2.2.1, (h.1 c).1.2.2.2.2, (h.1 c).2⟩)
      (Cert.KernelIdeal.Run.run_values (F := Ideal) m g)
  · exact (θ_run _ _ _).mono (fun _ h c => ⟨(h c).1.1.trans (queries_eq m m' c (same c)), (h c).1.2.1.trans (keys_eq m m' c (same c)),
      (h c).1.2.2.1.trans (vals_eq m m' c (same c)), (h c).1.2.2.2.1.trans (codes_eq m m' c (same c)),
      (h c).1.2.2.2.2.trans (scales_eq m m' c (same c)), (h c).2⟩) (Cert.ReferenceIdeal.Val.run_values m' g')

/-- Everything claimed. -/
theorem claim : Cert.Claim := ⟨Cert.Kernel.Gen.facts, Cert.KernelIdeal.Gen.facts, Cert.ReferenceIdeal.Gen.facts,
  fun m g _ => Cert.Kernel.Hand.frame m g, frame_KernelIdeal, fun m g _ => Cert.ReferenceIdeal.Gen.frame m g, preserves, algebraic⟩

end Cert.Proof

end
